-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_at_most_one [hPre_weights_at_most_one : Cert.Pre_weights_at_most_one.Facts] (m : (ℓ : Loc Cert.KernelIdeal.nD Cert.KernelIdeal.τ Cert.KernelIdeal.sig) → Buf (Elt Ideal) ℓ) : Prop :=
  ∀ c : Dev Cert.KernelIdeal.nD,
    (Cert.Pre_weights_at_most_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_at_most_one [hPre_weights_at_most_one : Cert.Pre_weights_at_most_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_at_most_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_weights_at_most_one [hKernelIdeal : Cert.KernelIdeal.Facts] [hPre_weights_at_most_one : Cert.Pre_weights_at_most_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_at_most_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_weights_at_most_one [hReferenceIdeal : Cert.ReferenceIdeal.Facts] [hPre_weights_at_most_one : Cert.Pre_weights_at_most_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_at_most_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_weights_at_most_one [hKernelIdeal : Cert.KernelIdeal.Facts] [hReferenceIdeal : Cert.ReferenceIdeal.Facts] [hPre_weights_at_most_one : Cert.Pre_weights_at_most_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_at_most_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_10) = v0 c
          ∧ r.2.mem ((c.tc : Thread Cert.ReferenceIdeal.nD Cert.ReferenceIdeal.τ).loc Cert.ReferenceIdeal.main_v2_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_weights_at_most_one : Cert.Pre_weights_at_most_one.Facts),
    quiescent_Kernel (hKernel := hKernel)
    ∧ quiescent_KernelIdeal (hKernelIdeal := hKernelIdeal)
    ∧ quiescent_KernelIdeal_pre_weights_at_most_one (hKernelIdeal := hKernelIdeal) (hPre_weights_at_most_one := hPre_weights_at_most_one)
    ∧ quiescent_ReferenceIdeal (hReferenceIdeal := hReferenceIdeal)
    ∧ quiescent_ReferenceIdeal_pre_weights_at_most_one (hReferenceIdeal := hReferenceIdeal) (hPre_weights_at_most_one := hPre_weights_at_most_one)
    ∧ preserves_Kernel_KernelIdeal
    ∧ algebraic_KernelIdeal_ReferenceIdeal_pre_weights_at_most_one (hKernelIdeal := hKernelIdeal) (hReferenceIdeal := hReferenceIdeal) (hPre_weights_at_most_one := hPre_weights_at_most_one)
-- ==== Pre_weights_at_most_one.lean ====
abbrev S32x1x512 : Shape := ⟨3, ![32, 1, 512]⟩
abbrev S2048x512 : Shape := ⟨2, ![2048, 512]⟩
abbrev S2048 : Shape := ⟨1, ![2048]⟩
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S32x1x512 .f32) (main_arg1 : FVec F S2048x512 .f32) (main_arg2 : FVec F S2048 .f32) (main_arg3 : FVec F S2048x2048 .f32) (main_arg4 : FVec F S2048 .f32) (main_arg5 : FVec F S2048x2048 .f32) : IVec S2048x2048 1 :=
  let main_cst : FVec F S_ .f32 := constant S_ .f32 0x3F800000#32
  let main_v0 : FVec F S2048x2048 .f32 := broadcastInDim S2048x2048 ![] bcast_S_S2048x2048 main_cst
  let main_v1 : IVec S2048x2048 1 := cmpf .ole main_arg5 main_v0
  main_v1
-- ==== Kernel.lean ====
abbrev S32x1x512 : Shape := ⟨3, ![32, 1, 512]⟩
abbrev S2048x512 : Shape := ⟨2, ![2048, 512]⟩
abbrev S2048 : Shape := ⟨1, ![2048]⟩
abbrev S2048x2048 : Shape := ⟨2, ![2048, 2048]⟩
abbrev S32x512 : Shape := ⟨2, ![32, 512]⟩
abbrev S1x2048 : Shape := ⟨2, ![1, 2048]⟩
abbrev S32x2048 : Shape := ⟨2, ![32, 2048]⟩
abbrev S256x2048 : Shape := ⟨2, ![256, 2048]⟩
abbrev S128x2048 : Shape := ⟨2, ![128, 2048]⟩
abbrev S2048x128 : Shape := ⟨2, ![2048, 128]⟩
abbrev S1x1x2048 : Shape := ⟨3, ![1, 1, 2048]⟩
abbrev S1 : Shape := ⟨1, ![1]⟩
abbrev S1x1x1 : Shape := ⟨3, ![1, 1, 1]⟩
abbrev S31x256 : Shape := ⟨2, ![31, 256]⟩
abbrev S256x31 : Shape := ⟨2, ![256, 31]⟩
abbrev S31x2048 : Shape := ⟨2, ![31, 2048]⟩
abbrev S32x1x2048 : Shape := ⟨3, ![32, 1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S32x1x512, .f32⟩
  | .hbm, ⟨1, _⟩ => ⟨S2048x512, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S32x512, .f32⟩
  | .hbm, ⟨7, _⟩ => ⟨S1x2048, .f32⟩
  | .hbm, ⟨8, _⟩ => ⟨S1x2048, .f32⟩
  | .hbm, ⟨9, _⟩ => ⟨S32x2048, .f32⟩
  | .hbm, ⟨10, _⟩ => ⟨S2048x2048, .f32⟩
  | .hbm, ⟨11, _⟩ => ⟨S32x1x2048, .f32⟩
  | .local _ .vmem, ⟨0, _⟩ => ⟨S32x512, .f32⟩
  | .local _ .vmem, ⟨1, _⟩ => ⟨S2048x512, .f32⟩
  | .local _ .vmem, ⟨2, _⟩ => ⟨S1x2048, .f32⟩
  | .local _ .vmem, ⟨3, _⟩ => ⟨S2048x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S32x2048, .f32⟩
  | .local _ .vmem, ⟨8, _⟩ => ⟨S256x2048, .f32⟩
  | .local _ .vmem, ⟨9, _⟩ => ⟨S256x2048, .f32⟩
  | .local _ .vmem, ⟨10, _⟩ => ⟨S32x2048, .f32⟩
  | .local _ .vmem, ⟨11, _⟩ => ⟨S2048x2048, .f32⟩
  | _, _ => ⟨S32x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_68 : BitVec 32 := 0#32
  let c32_i32 : BitVec 32 := 32#32
  let v112 : BitVec 32 := Scalar.addi c0_i32_68 c32_i32
  let c1_i32 : BitVec 32 := 1#32
  ⟨c0_i32_68, v112, c1_i32⟩
def k0_off1 (k0_t1 : Fin k0_t1_loop.trips) : Fin 2 → Nat :=
  let c0_i32_68 : BitVec 32 := 0#32
  let c1_i32 : BitVec 32 := 1#32
  let arg11 : BitVec 32 := Scf.iv c0_i32_68 c1_i32 k0_t1
  let v127 : Index := Scalar.indexCast arg11
  let c0_76 : Index := 0#32
  ![v127.toNat, 0]
def k0_off2 (i : grid0.Coords) : Fin 2 → Nat :=
  let c1 : Index := 1#32
  let arg0 : BitVec 32 := BitVec.ofNat 32 (i 0).val
  let c256_i32 : BitVec 32 := 256#32
  let v3 : BitVec 32 := Scalar.muli arg0 c256_i32
  let v4 : Index := Scalar.indexCast v3
  ![1, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32x1x512 : Shape := ⟨3, ![32, 1, 512]⟩
abbrev S2048x512 : Shape := ⟨2, ![2048, 512]⟩
abbrev S2048 : Shape := ⟨1, ![2048]⟩
abbrev S2048x2048 : Shape := ⟨2, ![2048, 2048]⟩
abbrev S_ : Shape := ⟨0, ![]⟩
abbrev S1x2048 : Shape := ⟨2, ![1, 2048]⟩
abbrev S32x1x2048 : Shape := ⟨3, ![32, 1, 2048]⟩
abbrev S1x1x512 : Shape := ⟨3, ![1, 1, 512]⟩
abbrev S1x512 : Shape := ⟨2, ![1, 512]⟩
abbrev S512x2048 : Shape := ⟨2, ![512, 2048]⟩
abbrev S2048x1 : Shape := ⟨2, ![2048, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S32x1x512, .f32⟩
  | .hbm, ⟨1, _⟩ => ⟨S2048x512, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S32x1x2048, .f32⟩
  | .hbm, ⟨10, _⟩ => ⟨S_, .i32⟩
  | .hbm, ⟨11, _⟩ => ⟨S32x1x512, .f32⟩
  | .hbm, ⟨12, _⟩ => ⟨S2048x512, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S_, .i32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S2048x2048, .f32⟩
  | .hbm, ⟨21, _⟩ => ⟨S32x1x2048, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x1x512, .f32⟩
  | .hbm, ⟨27, _⟩ => ⟨S1x512, .f32⟩
  | .hbm, ⟨28, _⟩ => ⟨S512x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S2048x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S_, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .i1⟩
  | .hbm, ⟨55, _⟩ => ⟨S1x2048, .f32⟩
  | .hbm, ⟨56, _⟩ => ⟨S2048, .f32⟩
  | .hbm, ⟨57, _⟩ => ⟨S2048, .f32⟩
  | .hbm, ⟨58, _⟩ => ⟨S2048x1, .f32⟩
  | .hbm, ⟨59, _⟩ => ⟨S1x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S1x1x2048, .f32⟩
  | .hbm, ⟨76, _⟩ => ⟨S_, .i32⟩
  | .hbm, ⟨77, _⟩ => ⟨S_, .i32⟩
  | .hbm, ⟨78, _⟩ => ⟨S32x1x2048, .f32⟩
  | .hbm, ⟨79, _⟩ => ⟨S_, .i32⟩
  | .hbm, ⟨80, _⟩ => ⟨S_, .i32⟩
  | _, _ => ⟨S32x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_c : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_v2_8 : Ref sig .tc := ⟨.hbm, 19, rfl⟩
abbrev main_v2_9 : Ref sig .tc := ⟨.hbm, 20, rfl⟩
abbrev main_v2_10 : Ref sig .tc := ⟨.hbm, 21, rfl⟩
abbrev main_while0c_c_11 : Ref sig .tc := ⟨.hbm, 22, rfl⟩
abbrev main_while0c_v3 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v3 : Ref sig .tc := ⟨.hbm, 27, rfl⟩
abbrev main_while0b_v4 : Ref sig .tc := ⟨.hbm, 28, rfl⟩
abbrev main_while0b_v5 : Ref sig .tc := ⟨.hbm, 29, rfl⟩
abbrev main_while0b_v6 : Ref sig .tc := ⟨.hbm, 30, rfl⟩
abbrev main_while0b_v7 : Ref sig .tc := ⟨.hbm, 31, rfl⟩
abbrev main_while0b_v8 : Ref sig .tc := ⟨.hbm, 32, rfl⟩
abbrev main_while0b_v9 : Ref sig .tc := ⟨.hbm, 33, rfl⟩
abbrev main_while0b_v10 : Ref sig .tc := ⟨.hbm, 34, rfl⟩
abbrev main_while0b_v11 : Ref sig .tc := ⟨.hbm, 35, rfl⟩
abbrev main_while0b_cst_11 : Ref sig .tc := ⟨.hbm, 36, rfl⟩
abbrev main_while0b_v12 : Ref sig .tc := ⟨.hbm, 37, rfl⟩
abbrev main_while0b_v13 : Ref sig .tc := ⟨.hbm, 38, rfl⟩
abbrev main_while0b_v14 : Ref sig .tc := ⟨.hbm, 39, rfl⟩
abbrev main_while0b_v15 : Ref sig .tc := ⟨.hbm, 40, rfl⟩
abbrev main_while0b_cst_12 : Ref sig .tc := ⟨.hbm, 41, rfl⟩
abbrev main_while0b_v16 : Ref sig .tc := ⟨.hbm, 42, rfl⟩
abbrev main_while0b_v17 : Ref sig .tc := ⟨.hbm, 43, rfl⟩
abbrev main_while0b_v18 : Ref sig .tc := ⟨.hbm, 44, rfl⟩
abbrev main_while0b_cst_13 : Ref sig .tc := ⟨.hbm, 45, rfl⟩
abbrev main_while0b_v19 : Ref sig .tc := ⟨.hbm, 46, rfl⟩
abbrev main_while0b_v20 : Ref sig .tc := ⟨.hbm, 47, rfl⟩
abbrev main_while0b_v21 : Ref sig .tc := ⟨.hbm, 48, rfl⟩
abbrev main_while0b_cst_14 : Ref sig .tc := ⟨.hbm, 49, rfl⟩
abbrev main_while0b_v22 : Ref sig .tc := ⟨.hbm, 50, rfl⟩
abbrev main_while0b_v23 : Ref sig .tc := ⟨.hbm, 51, rfl⟩
abbrev main_while0b_cst_15 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_v27 : Ref sig .tc := ⟨.hbm, 56, rfl⟩
abbrev main_while0b_v28 : Ref sig .tc := ⟨.hbm, 57, rfl⟩
abbrev main_while0b_v29 : Ref sig .tc := ⟨.hbm, 58, rfl⟩
abbrev main_while0b_v30 : Ref sig .tc := ⟨.hbm, 59, rfl⟩
abbrev main_while0b_v31 : Ref sig .tc := ⟨.hbm, 60, rfl⟩
abbrev main_while0b_v32 : Ref sig .tc := ⟨.hbm, 61, rfl⟩
abbrev main_while0b_v33 : Ref sig .tc := ⟨.hbm, 62, rfl⟩
abbrev main_while0b_cst_16 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_cst_17 : Ref sig .tc := ⟨.hbm, 67, rfl⟩
abbrev main_while0b_cst_18 : Ref sig .tc := ⟨.hbm, 68, rfl⟩
abbrev main_while0b_call1_v0 : Ref sig .tc := ⟨.hbm, 69, rfl⟩
abbrev main_while0b_call1_v1 : Ref sig .tc := ⟨.hbm, 70, rfl⟩
abbrev main_while0b_call1_v2 : Ref sig .tc := ⟨.hbm, 71, rfl⟩
abbrev main_while0b_call1_v3 : Ref sig .tc := ⟨.hbm, 72, rfl⟩
abbrev main_while0b_call1_v4 : Ref sig .tc := ⟨.hbm, 73, rfl⟩
abbrev main_while0b_v37 : Ref sig .tc := ⟨.hbm, 74, rfl⟩
abbrev main_while0b_call2_v0 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_v38 : Ref sig .tc := ⟨.hbm, 78, rfl⟩
abbrev main_while0b_c_19 : Ref sig .tc := ⟨.hbm, 79, rfl⟩
abbrev main_while0b_v39 : Ref sig .tc := ⟨.hbm, 80, rfl⟩

abbrev nD : Nat := 1
abbrev τ : Topo := Topo.v7x

variable {F : FTy → Type} [FloatOps F]

abbrev main_while0_count : Scf.Loop 32 := ⟨0#32, 32#32, 1#32⟩
-- ==== Proof.Loop.lean ====
/- The time loop of the kernel's first grid point: the state it carries, trip by trip, and the rows it leaves in the
   record's buffer. The loop is gone through once, at a symbolic trip. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.ValueIdxCore
public import Idealize.ShloMosaic.Lib.Tactic

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the pipeline's own resources, with nothing beside them. -/
abbrev UU (nD : Nat) (τ : Topo) : Type := UR sig nD τ
/-- No loop of the programs needs a measure. -/
abbrev 𝒱₀ : Variants := Variants.none

local notation "𝕄" => MT nD τ sig Unit (Elt F) ℕ (UU nD τ) ℕ

/-- A buffer of core `c` held whole at contents `f`. -/
abbrev pt (c : Dev nD) {s : Shape} {e : EltTy} (M : Memref sig .tc .vmem s e) (f : M.view.ty.Contents (Elt F)) : sProp 𝕄 :=
  M.view.loc (c : Thread nD τ) ↦{fullShare} f

/-! ## The state the loop carries -/

/-- Spikes, synaptic current and membrane potential of the 2048 neurons. -/
abbrev Carry (F : FTy → Type) : Type := FVec F S1x2048 .f32 × FVec F S1x2048 .f32 × FVec F S1x2048 .f32

/-- The test of the recurrent product: does any neuron spike? -/
abbrev anySpike (spk : FVec F S1x2048 .f32) : BitVec 1 :=
  Scalar.cmpi .ne (Scalar.extui (Scalar.cmpf .ogt (k0_pay2 spk) (Scalar.ofBits .f32 0x00000000#32)) : BitVec 32) 0#32

/-- The recurrent current: the spikes times the transposed weights, computed only if some neuron spikes. -/
def recur (vT : FVec F S2048x2048 .f32) (spk : FVec F S1x2048 .f32) : FVec F S1x2048 .f32 :=
  if anySpike spk = 1#1 then k0_pay3 spk vT else k0_pay4

/-- Row `t` of the input currents. -/
def row (curr : FVec F S32x2048 .f32) (t : ℕ) : FVec F S1x2048 .f32 :=
  fun x => curr (ix2 ⟨t % 32, Nat.mod_lt _ (by decide)⟩ ⟨(x 1).val, (x 1).isLt⟩)

/-- One time step, from the bias `b` of the recurrent current and the row `r` of the input currents. -/
def trip (vT : FVec F S2048x2048 .f32) (b r : FVec F S1x2048 .f32) (a : Carry F) : Carry F :=
  (k0_pay7 a.1 a.2.1 a.2.2 (recur vT a.1) b r, k0_pay5 a.2.1 (recur vT a.1) b r,
    k0_pay6 a.1 a.2.1 a.2.2 (recur vT a.1) b r)

/-- The state before step `k`. -/
def st (vT : FVec F S2048x2048 .f32) (b : FVec F S1x2048 .f32) (curr : FVec F S32x2048 .f32) : ℕ → Carry F
  | 0 => (k0_pay1, k0_pay1, k0_pay1)
  | k + 1 => trip vT b (row curr k) (st vT b curr k)

/-- The spikes of every step, one row each. -/
def record (vT : FVec F S2048x2048 .f32) (b : FVec F S1x2048 .f32) (curr : FVec F S32x2048 .f32) : FVec F S32x2048 .f32 :=
  fun y => (st vT b curr ((y 0).val + 1)).1 (ix2 0 ⟨(y 1).val, (y 1).isLt⟩)

theorem trips_eq : k0_t1_loop.trips = 32 := by decide

/-- The row a trip loads is the row of its number. -/
theorem row_eq (curr : FVec F S32x2048 .f32) (i : grid0.Coords) (h : k0_cond1 i = 1#1) (t : Fin k0_t1_loop.trips) :
    (fun x => curr ((Rect.unit (s := S32x2048) (k0_off1 t) S1x2048.size (k0_off1_inb i t h)).idx x)) = row curr t.val := by
  have ht : t.val < 32 := Nat.lt_of_lt_of_eq t.isLt trips_eq
  funext x
  unfold row
  refine congrArg curr (funext fun a => Fin.ext ?_)
  have e := congrFun (k0_off1_eq t)
  match a with
  | ⟨0, _⟩ =>
    show k0_off1 t 0 + 1 * (x 0).val = t.val % 32
    have h0 : (x 0).val < 1 := (x 0).isLt
    have e0 : k0_off1 t 0 = t.val := e 0
    rw [Nat.mod_eq_of_lt ht]; omega
  | ⟨1, _⟩ =>
    show k0_off1 t 1 + 1 * (x 1).val = (x 1).val
    have e1 : k0_off1 t 1 = 0 := e 1
    omega

/-- The state after a step, from the values the step reads. -/
theorem st_succ {vT : FVec F S2048x2048 .f32} {b r b' : FVec F S1x2048 .f32} {curr : FVec F S32x2048 .f32} {k : ℕ}
    {spk syn mem R : FVec F S1x2048 .f32} (h : (spk, syn, mem) = st vT b curr k) (hR : R = recur vT spk) (hb : b' = b)
    (hr : r = row curr k) :
    (k0_pay7 spk syn mem R b' r, k0_pay5 syn R b' r, k0_pay6 spk syn mem R b' r) = st vT b curr (k + 1) := by
  subst hR hb hr
  show _ = trip vT b' (row curr k) (st vT b' curr k)
  rw [← h]; rfl

/-! ## The invariant -/

/-- The rows of the steps before `k` are the spikes of those steps. -/
def RowsBefore (vT : FVec F S2048x2048 .f32) (b : FVec F S1x2048 .f32) (curr : FVec F S32x2048 .f32) (k : ℕ)
    (X : FVec F S32x2048 .f32) : Prop :=
  ∀ y : S32x2048.Idx, (y 0).val < k → X y = record vT b curr y

theorem RowsBefore.done {vT : FVec F S2048x2048 .f32} {b : FVec F S1x2048 .f32} {curr X : FVec F S32x2048 .f32}
    (h : RowsBefore vT b curr 32 X) : X = record vT b curr := funext fun y => h y (y 0).isLt

/-- Storing the spikes of step `k` in row `k` extends the rows by one. -/
theorem RowsBefore.store {vT : FVec F S2048x2048 .f32} {b : FVec F S1x2048 .f32} {curr : FVec F S32x2048 .f32}
    (M : Memref sig .tc .vmem S32x2048 .f32) (f : M.view.ty.Contents (Elt F)) (i : grid0.Coords) (h1 : k0_cond1 i = 1#1)
    (t : Fin k0_t1_loop.trips) (w : FVec F S1x2048 .f32) (h : RowsBefore vT b curr t.val (M.view.read (Elt F) f))
    (hw : w = (st vT b curr (t.val + 1)).1) :
    RowsBefore vT b curr (t.val + 1) (M.view.read (Elt F) (M.view.writes (Elt F) f
      [⟨Rect.unit (s := S32x2048) (k0_off1 t) S1x2048.size (k0_off1_inb i t h1), w⟩])) := by
  intro y hy
  by_cases hlt : (y 0).val < t.val
  · rw [View.read_writes_cons_unit_of_not_mem M.view f (off' := ![t.val, 0]) (k0_off1_inb i t h1) w [] y (k0_off1_eq t) 0
      (.inl hlt)]
    exact h y hlt
  · have e : (y 0).val = t.val := by omega
    rw [View.read_writes_cons_unit_of_mem M.view f (off' := ![t.val, 0]) (k0_off1_inb i t h1) w [] y
      (ix2 (0 : Fin 1) (⟨(y 1).val, (y 1).isLt⟩ : Fin 2048)) (k0_off1_eq t) (fun a => by
        match a with
        | ⟨0, _⟩ => show (y 0).val = t.val + 0; omega
        | ⟨1, _⟩ => show (y 1).val = 0 + (y 1).val; omega)]
    subst hw
    unfold record
    rw [e]

section LoopInv

variable (c : Dev nD) (arg5 : Memref sig .tc .vmem S1x2048 .f32) (arg7 arg9 : Memref sig .tc .vmem S32x2048 .f32)
  (arg10 : Memref sig .tc .vmem S2048x2048 .f32) (X5 : arg5.view.ty.Contents (Elt F)) (X9 : arg9.view.ty.Contents (Elt F))
  (X10 : arg10.view.ty.Contents (Elt F))

/-- The state before step `k`, from what the buffers hold. -/
abbrev stOf (k : ℕ) : Carry F :=
  st (arg10.view.read (Elt F) X10) (arg5.view.read (Elt F) X5) (arg9.view.read (Elt F) X9) k

/-- Before trip `k`: the weights, the bias and the input currents untouched, the rows before `k` recorded, the carried
    values the state before step `k`. -/
def linv (k : ℕ) (acc : Carry F) : sProp 𝕄 :=
  iprop(pt c arg10 X10 ∗ pt c arg5 X5 ∗ pt c arg9 X9
    ∗ (∃ f, ⌜RowsBefore (arg10.view.read (Elt F) X10) (arg5.view.read (Elt F) X5) (arg9.view.read (Elt F) X9) k
        (arg7.view.read (Elt F) f)⌝ ∗ pt c arg7 f)
    ∗ ⌜acc = stOf arg5 arg9 arg10 X5 X9 X10 k⌝)

end LoopInv

theorem lstep (c : Dev nD) (i : grid0.Coords) (arg1 : Memref sig .tc .vmem S32x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S32x2048 .f32) (harg7 : arg7.IsWhole) (arg8 : Memref sig .tc .vmem S256x2048 .f32) (harg8 : arg8.IsWhole) (arg9 : Memref sig .tc .vmem S32x2048 .f32) (harg9 : arg9.IsWhole) (arg10 : Memref sig .tc .vmem S2048x2048 .f32) (harg10 : arg10.IsWhole) (h1 : k0_cond1 i = 1#1)
    (X5 : arg5.view.ty.Contents (Elt F)) (X9 : arg9.view.ty.Contents (Elt F)) (X10 : arg10.view.ty.Contents (Elt F))
    (k : Fin k0_t1_loop.trips) (acc : Carry F) :
    linv c arg5 arg7 arg9 arg10 X5 X9 X10 k.val acc
      ⊢ wp frame (wpE defs₀ 𝒱₀ (c : Thread nD τ) none) Set.univ
          (k0_t1_body (F := F) i arg1 harg1 arg2 harg2 arg3 harg3 arg4 harg4 arg5 harg5 arg6 harg6 arg7 harg7 arg8 harg8 arg9 harg9 arg10 harg10 h1 k acc)
          (linv c arg5 arg7 arg9 arg10 X5 X9 X10 (k.val + 1)) := by
  obtain ⟨spk, syn, mem⟩ := acc
  unfold linv k0_t1_body
  iintro ⟨H10, H5, H9, ⟨%f, %hf, H7⟩, %hacc⟩
  dsimp only
  by_cases hs : anySpike spk = 1#1
  · have hr : k0_pay3 spk (arg10.view.read (Elt F) X10) = recur (arg10.view.read (Elt F) X10) spk := (if_pos hs).symm
    rw [if_pos hs]
    have hn := st_succ (k := k.val) hacc (congrArg (k0_pay3 spk) (View.readAt_full arg10.view X10 inb_S2048x2048_S2048x2048_0_0) |>.trans hr)
      (View.readAt_full arg5.view X5 inb_S1x2048_S1x2048_0_0) (row_eq (arg9.view.read (Elt F) X9) i h1 k)
    sl_exec
    sl_step
    isplitl [H10]; · iexact H10
    isplitl [H5]; · iexact H5
    isplitl [H9]; · iexact H9
    isplitl [H7]
    · iexists _
      isplitr [H7]
      · ipureintro
        exact RowsBefore.store arg7 f i h1 k _ hf (congrArg Prod.fst hn)
      · iexact H7
    · ipureintro; exact hn
  · have hr : k0_pay4 (F := F) = recur (arg10.view.read (Elt F) X10) spk := (if_neg hs).symm
    rw [if_neg hs]
    have hn := st_succ (k := k.val) hacc hr
      (View.readAt_full arg5.view X5 inb_S1x2048_S1x2048_0_0) (row_eq (arg9.view.read (Elt F) X9) i h1 k)
    sl_exec
    sl_step
    isplitl [H10]; · iexact H10
    isplitl [H5]; · iexact H5
    isplitl [H9]; · iexact H9
    isplitl [H7]
    · iexists _
      isplitr [H7]
      · ipureintro
        exact RowsBefore.store arg7 f i h1 k _ hf (congrArg Prod.fst hn)
      · iexact H7
    · ipureintro; exact hn

/-- The loop's invariant, as the executor takes it. -/
@[sl_loop] def loopInv_k0_t1 (c : Dev nD) (i : grid0.Coords) (arg1 : Memref sig .tc .vmem S32x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S32x2048 .f32) (harg7 : arg7.IsWhole) (arg8 : Memref sig .tc .vmem S256x2048 .f32) (harg8 : arg8.IsWhole) (arg9 : Memref sig .tc .vmem S32x2048 .f32) (harg9 : arg9.IsWhole) (arg10 : Memref sig .tc .vmem S2048x2048 .f32) (harg10 : arg10.IsWhole) (h1 : k0_cond1 i = 1#1)
    (X5 : arg5.view.ty.Contents (Elt F)) (X9 : arg9.view.ty.Contents (Elt F)) (X10 : arg10.view.ty.Contents (Elt F)) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 h1 (k0_pay1, k0_pay1, k0_pay1) where
  inv := linv c arg5 arg7 arg9 arg10 X5 X9 X10
  step := lstep c i arg1 harg1 arg2 harg2 arg3 harg3 arg4 harg4 arg5 harg5 arg6 harg6 arg7 harg7 arg8 harg8 arg9 harg9 arg10 harg10 h1 X5 X9 X10

end Cert.Proof.KernelIdeal

end
-- ==== Proof.Fill.lean ====
/- What the first grid point prepares before its time loop: the recurrent weights transposed, sixteen column blocks of
   them, and the input currents of every step. -/
module

public import proofs.«01_k».proof.Proof.Loop
public import Idealize.ShloMosaic.Lib.ValueLayout
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The transposed weights. -/
def flipped (V : FVec F S2048x2048 .f32) : FVec F S2048x2048 .f32 :=
  fun y => V (ix2 ⟨(y 1).val, (y 1).isLt⟩ ⟨(y 0).val, (y 0).isLt⟩)

/-- The first `n` columns are those of the transposed weights. -/
def ColsBefore (V : FVec F S2048x2048 .f32) (n : ℕ) (X : FVec F S2048x2048 .f32) : Prop :=
  ∀ y : S2048x2048.Idx, (y 1).val < n → X y = flipped V y

theorem ColsBefore.zero (V X : FVec F S2048x2048 .f32) : ColsBefore V 0 X := fun _ h => absurd h (Nat.not_lt_zero _)

theorem ColsBefore.done {V X : FVec F S2048x2048 .f32} (h : ColsBefore V 2048 X) : X = flipped V :=
  funext fun y => h y (y 1).isLt

/-- One block: rows `o` to `o + 128` of the weights, transposed. -/
theorem block_apply (M : Memref sig .tc .vmem S2048x2048 .f32) (X : M.view.ty.Contents (Elt F)) (o : ℕ)
    (inb : ∀ a, (![o, 0] : Fin 2 → ℕ) a + S128x2048.size a ≤ S2048x2048.size a)
    (x : S2048x128.Idx) (y : S2048x2048.Idx) (h0 : (y 0).val = (x 0).val) (h1 : (y 1).val = o + (x 1).val) :
    k0_pay9 (M.view.readAt (Elt F) (Rect.unit (s := S2048x2048) ![o, 0] S128x2048.size inb).toLoadRect X) x
      = flipped (M.view.read (Elt F) X) y := by
  unfold k0_pay9
  dsimp only
  rw [shapeCast_self]
  obtain ⟨a, b, rfl⟩ : ∃ (a : Fin 2048) (b : Fin 128), x = ix2 a b := ⟨x 0, x 1, eq_ix2 x⟩
  rw [transpose_ix2_apply]
  rw [View.readAt_apply]
  unfold flipped
  refine congrArg (M.view.read (Elt F) X) (funext fun d => Fin.ext ?_)
  match d with
  | ⟨0, _⟩ => show o + 1 * b.val = (y 1).val; rw [h1]; show o + 1 * b.val = o + b.val; omega
  | ⟨1, _⟩ => show 0 + 1 * a.val = (y 0).val; rw [h0]; show 0 + 1 * a.val = a.val; omega

/-- Storing the next block of columns. -/
theorem ColsBefore.store {M4 M : Memref sig .tc .vmem S2048x2048 .f32} {X : M4.view.ty.Contents (Elt F)}
    {f : M.view.ty.Contents (Elt F)} {L : List (View.Piece (Elt F) S2048x2048 .f32)} {o : ℕ}
    (h : ColsBefore (M4.view.read (Elt F) X) o (M.view.read (Elt F) (M.view.writes (Elt F) f L)))
    (inb4 : ∀ a, (![o, 0] : Fin 2 → ℕ) a + S128x2048.size a ≤ S2048x2048.size a)
    (inb : ∀ a, (![0, o] : Fin 2 → ℕ) a + S2048x128.size a ≤ S2048x2048.size a) :
    ColsBefore (M4.view.read (Elt F) X) (o + 128) (M.view.read (Elt F) (M.view.writes (Elt F) f
      (⟨Rect.unit (s := S2048x2048) ![0, o] S2048x128.size inb,
        k0_pay9 (M4.view.readAt (Elt F) (Rect.unit (s := S2048x2048) ![o, 0] S128x2048.size inb4).toLoadRect X)⟩ :: L))) := by
  intro y hy
  by_cases hlt : (y 1).val < o
  · rw [View.read_writes_cons_unit_of_not_mem M.view f (off' := ![0, o]) inb _ L y rfl 1 (.inl hlt)]
    exact h y hlt
  · have hb : (y 1).val - o < 128 := by omega
    rw [View.read_writes_cons_unit_of_mem M.view f (off' := ![0, o]) inb _ L y
      (ix2 (⟨(y 0).val, (y 0).isLt⟩ : Fin 2048) (⟨(y 1).val - o, hb⟩ : Fin 128)) rfl (fun a => by
        match a with
        | ⟨0, _⟩ => show (y 0).val = 0 + (y 0).val; omega
        | ⟨1, _⟩ => show (y 1).val = o + ((y 1).val - o); omega)]
    exact block_apply M4 X o inb4 _ y rfl (by show (y 1).val = o + ((y 1).val - o); omega)

section Parts

variable (c : Dev nD) (i : grid0.Coords) (arg1 : Memref sig .tc .vmem S32x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S32x2048 .f32) (harg7 : arg7.IsWhole) (arg8 : Memref sig .tc .vmem S256x2048 .f32) (harg8 : arg8.IsWhole) (arg9 : Memref sig .tc .vmem S32x2048 .f32) (harg9 : arg9.IsWhole) (arg10 : Memref sig .tc .vmem S2048x2048 .f32) (harg10 : arg10.IsWhole)
  (X4 : arg4.view.ty.Contents (Elt F))

/-- The weights untouched, the first `n` columns of their transpose stored. -/
def filled (n : ℕ) : sProp 𝕄 :=
  iprop(pt c arg4 X4 ∗ ∃ f, pt c arg10 f ∗ ⌜ColsBefore (arg4.view.read (Elt F) X4) n (arg10.view.read (Elt F) f)⌝)

theorem part1_fills :
    filled c arg4 arg10 X4 0
      ⊢ wp frame (wpE defs₀ 𝒱₀ (c : Thread nD τ) none) Set.univ
          (k0_part1 (F := F) i arg1 harg1 arg2 harg2 arg3 harg3 arg4 harg4 arg5 harg5 arg6 harg6 arg7 harg7 arg8 harg8 arg9 harg9 arg10 harg10)
          fun _ => filled c arg4 arg10 X4 768 := by
  rw [k0_part1_eq_skeleton]
  unfold filled k0_part1_skel
  iintro ⟨H4, %f, H10, %hf⟩
  sl_exec
  sl_step
  isplitl [H4]; · iexact H4
  iexists _
  isplitl [H10]; · iexact H10
  ipureintro
  have h0 : ColsBefore (arg4.view.read (Elt F) X4) 0 (arg10.view.read (Elt F) (arg10.view.writes (Elt F) f [])) := hf
  exact (((((h0.store _ _).store _ _).store _ _).store _ _).store _ _).store _ _

theorem part2_fills :
    filled c arg4 arg10 X4 768
      ⊢ wp frame (wpE defs₀ 𝒱₀ (c : Thread nD τ) none) Set.univ
          (k0_part2 (F := F) i arg1 harg1 arg2 harg2 arg3 harg3 arg4 harg4 arg5 harg5 arg6 harg6 arg7 harg7 arg8 harg8 arg9 harg9 arg10 harg10)
          fun _ => filled c arg4 arg10 X4 1536 := by
  rw [k0_part2_eq_skeleton]
  unfold filled k0_part2_skel
  iintro ⟨H4, %f, H10, %hf⟩
  sl_exec
  sl_step
  isplitl [H4]; · iexact H4
  iexists _
  isplitl [H10]; · iexact H10
  ipureintro
  have h0 : ColsBefore (arg4.view.read (Elt F) X4) 768 (arg10.view.read (Elt F) (arg10.view.writes (Elt F) f [])) := hf
  exact (((((h0.store _ _).store _ _).store _ _).store _ _).store _ _).store _ _

variable (X1 : arg1.view.ty.Contents (Elt F)) (X2 : arg2.view.ty.Contents (Elt F)) (X3 : arg3.view.ty.Contents (Elt F))
  (X9 : arg9.view.ty.Contents (Elt F))

/-- The input currents of every step, from the inputs, their weights and their bias. -/
abbrev currents (x : FVec F S32x512 .f32) (w : FVec F S2048x512 .f32) (b : FVec F S1x2048 .f32) : FVec F S32x2048 .f32 :=
  k0_pay25 x w b

theorem part3_fills :
    iprop(pt c arg1 X1 ∗ pt c arg2 X2 ∗ pt c arg3 X3 ∗ pt c arg9 X9 ∗ filled c arg4 arg10 X4 1536)
      ⊢ wp frame (wpE defs₀ 𝒱₀ (c : Thread nD τ) none) Set.univ
          (k0_part3 (F := F) i arg1 harg1 arg2 harg2 arg3 harg3 arg4 harg4 arg5 harg5 arg6 harg6 arg7 harg7 arg8 harg8 arg9 harg9 arg10 harg10)
          fun v => iprop(⌜v = currents (arg1.view.read (Elt F) X1) (arg2.view.read (Elt F) X2) (arg3.view.read (Elt F) X3)⌝
            ∗ pt c arg1 X1 ∗ pt c arg2 X2 ∗ pt c arg3 X3 ∗ pt c arg9 X9 ∗ filled c arg4 arg10 X4 2048) := by
  rw [k0_part3_eq_skeleton]
  unfold filled k0_part3_skel
  iintro ⟨H1, H2, H3, H9, H4, %f, H10, %hf⟩
  sl_exec
  sl_step
  isplitr [H1 H2 H3 H9 H4 H10]
  · ipureintro
    rw [View.readAt_full arg1.view X1 inb_S32x512_S32x512_0_0, View.readAt_full arg2.view X2 inb_S2048x512_S2048x512_0_0,
      View.readAt_full arg3.view X3 inb_S1x2048_S1x2048_0_0]
  isplitl [H1]; · iexact H1
  isplitl [H2]; · iexact H2
  isplitl [H3]; · iexact H3
  isplitl [H9]; · iexact H9
  isplitl [H4]; · iexact H4
  iexists _
  isplitl [H10]; · iexact H10
  ipureintro
  have h0 : ColsBefore (arg4.view.read (Elt F) X4) 1536 (arg10.view.read (Elt F) (arg10.view.writes (Elt F) f [])) := hf
  exact (((h0.store _ _).store _ _).store _ _).store _ _

end Parts

end Cert.Proof.KernelIdeal

end
-- ==== Proof.Body.lean ====
/- One grid point of the kernel. The first point transposes the recurrent weights, forms the input currents and runs
   the time loop, leaving the record of spikes in its buffer; every point then updates its rows of the plastic weights
   from that record. -/
module

public import proofs.«01_k».proof.Proof.Fill

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The rows and columns of a record the update at point `i` reads as later spikes: rows 1 to 31, the point's columns. -/
def later (i : grid0.Coords) (R : FVec F S32x2048 .f32) : FVec F S31x256 .f32 := fun y =>
  R (ix2 ⟨(y 0).val + 1, by have := ValueIdx.idx2_lt0 y; omega⟩
    ⟨256 * (i 0).val + (y 1).val, by have := ValueIdx.idx2_lt1 y; have h := (i 0).isLt; change _ < 8 at h; omega⟩)

/-- The rows of a record the update reads as earlier spikes: rows 0 to 30. -/
def earlier (R : FVec F S32x2048 .f32) : FVec F S31x2048 .f32 := fun y =>
  R (ix2 ⟨(y 0).val, by have := ValueIdx.idx2_lt0 y; omega⟩ ⟨(y 1).val, ValueIdx.idx2_lt1 y⟩)

/-- The plastic weights point `i` leaves: its rows `w` updated from the record `R`. -/
def updated (i : grid0.Coords) (R : FVec F S32x2048 .f32) (w : FVec F S256x2048 .f32) : FVec F S256x2048 .f32 :=
  k0_pay8 (later i R) (earlier R) w

theorem later_eq (i : grid0.Coords) (M : Memref sig .tc .vmem S32x2048 .f32) (f : M.view.ty.Contents (Elt F)) :
    M.view.readAt (Elt F) (Rect.unit (s := S32x2048) (k0_off2 i) S31x256.size (k0_off2_inb i)).toLoadRect f
      = later i (M.view.read (Elt F) f) := by
  funext y
  rw [View.readAt_apply]
  unfold later
  refine congrArg (M.view.read (Elt F) f) (funext fun a => Fin.ext ?_)
  have e := congrFun (k0_off2_eq i)
  match a with
  | ⟨0, _⟩ =>
    have e0 : k0_off2 i 0 = 1 := e 0
    show k0_off2 i 0 + 1 * (y 0).val = (y 0).val + 1
    omega
  | ⟨1, _⟩ =>
    have e1 : k0_off2 i 1 = 256 * (i 0).val := e 1
    show k0_off2 i 1 + 1 * (y 1).val = 256 * (i 0).val + (y 1).val
    omega

theorem earlier_eq (M : Memref sig .tc .vmem S32x2048 .f32) (f : M.view.ty.Contents (Elt F)) :
    M.view.readAt (Elt F) (Rect.unit (s := S32x2048) ![0, 0] S31x2048.size inb_S32x2048_S31x2048_0_0).toLoadRect f
      = earlier (M.view.read (Elt F) f) := by
  funext y
  rw [View.readAt_apply]
  unfold earlier
  refine congrArg (M.view.read (Elt F) f) (funext fun a => Fin.ext ?_)
  match a with
  | ⟨0, _⟩ => show 0 + 1 * (y 0).val = (y 0).val; omega
  | ⟨1, _⟩ => show 0 + 1 * (y 1).val = (y 1).val; omega

section Whole

variable (c : Dev nD) (i : grid0.Coords) (arg1 : Memref sig .tc .vmem S32x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S32x2048 .f32) (harg7 : arg7.IsWhole) (arg8 : Memref sig .tc .vmem S256x2048 .f32) (harg8 : arg8.IsWhole) (arg9 : Memref sig .tc .vmem S32x2048 .f32) (harg9 : arg9.IsWhole) (arg10 : Memref sig .tc .vmem S2048x2048 .f32) (harg10 : arg10.IsWhole)

/-- What every point does with the record: its rows of the plastic weights, updated. -/
def tail (i : grid0.Coords) (arg6 : Memref sig .tc .vmem S256x2048 .f32) (arg7 : Memref sig .tc .vmem S32x2048 .f32)
    (arg8 : Memref sig .tc .vmem S256x2048 .f32) : Prog (TpuEff nD τ sig (Elt F) Λ₀ .tc) PUnit := do
  let v5 : Vec F S31x256 .f32 ← Prog.lift (.load arg7 (Rect.unit (s := S32x2048) (k0_off2 i) S31x256.size (k0_off2_inb i)).toLoadRect (View.loadsAt_vmem h_S31x256))
  let v8 : Vec F S31x2048 .f32 ← Prog.lift (.load arg7 (Rect.unit (s := S32x2048) ![0, 0] S31x2048.size inb_S32x2048_S31x2048_0_0).toLoadRect (View.loadsAt_vmem h_S31x2048))
  let v11 : Vec F S256x2048 .f32 ← Prog.lift (.load arg6 (Rect.unit (s := S256x2048) ![0, 0] S256x2048.size inb_S256x2048_S256x2048_0_0).toLoadRect (View.loadsAt_vmem h_S256x2048))
  let _ : Vec F S256x2048 .f32 ← Prog.lift (.load arg8 (Rect.unit (s := S256x2048) ![0, 0] S256x2048.size inb_S256x2048_S256x2048_0_0).toLoadRect (View.loadsAt_vmem h_S256x2048))
  Prog.lift (.store arg8 (Rect.unit (s := S256x2048) ![0, 0] S256x2048.size inb_S256x2048_S256x2048_0_0) (k0_pay8 v5 v8 v11) Finset.univ (View.stores_vmem_bits_univ h_S256x2048 rfl) (.inl rfl))
  pure ⟨⟩

/-- The two buffers and the plastic weights after a point that found the record `R`. -/
def done (R : FVec F S32x2048 .f32) (X6 : arg6.view.ty.Contents (Elt F)) : sProp 𝕄 :=
  iprop(pt c arg6 X6 ∗ (∃ f, pt c arg7 f ∗ ⌜arg7.view.read (Elt F) f = R⌝)
    ∗ ∃ f, pt c arg8 f ∗ ⌜arg8.view.read (Elt F) f = updated i R (arg6.view.read (Elt F) X6)⌝)

theorem tail_run (R : FVec F S32x2048 .f32) (X6 : arg6.view.ty.Contents (Elt F)) (X7 : arg7.view.ty.Contents (Elt F))
    (X8 : arg8.view.ty.Contents (Elt F)) (hR : arg7.view.read (Elt F) X7 = R) :
    iprop(pt c arg6 X6 ∗ pt c arg7 X7 ∗ pt c arg8 X8)
      ⊢ wp frame (wpE defs₀ 𝒱₀ (c : Thread nD τ) none) Set.univ (tail (F := F) i arg6 arg7 arg8)
          fun _ => done c i arg6 arg7 arg8 R X6 := by
  unfold tail done
  iintro ⟨H6, H7, H8⟩
  sl_exec
  sl_step
  isplitl [H6]; · iexact H6
  isplitl [H7]
  · iexists _
    isplitl [H7]; · iexact H7
    ipureintro; exact hR
  iexists _
  isplitl [H8]; · iexact H8
  ipureintro
  rw [View.read_writes_full arg8.view]
  unfold updated
  rw [later_eq, earlier_eq, hR, View.readAt_full arg6.view X6 inb_S256x2048_S256x2048_0_0]

theorem later_points (h1 : ¬ k0_cond1 i = 1#1) (R : FVec F S32x2048 .f32) (X6 : arg6.view.ty.Contents (Elt F))
    (X7 : arg7.view.ty.Contents (Elt F)) (X8 : arg8.view.ty.Contents (Elt F)) (hR : arg7.view.read (Elt F) X7 = R) :
    iprop(pt c arg6 X6 ∗ pt c arg7 X7 ∗ pt c arg8 X8)
      ⊢ wp frame (wpE defs₀ 𝒱₀ (c : Thread nD τ) none) Set.univ
          (cc0__fused_kernel (F := F) i arg1 harg1 arg2 harg2 arg3 harg3 arg4 harg4 arg5 harg5 arg6 harg6 arg7 harg7 arg8 harg8 arg9 harg9 arg10 harg10)
          fun _ => done c i arg6 arg7 arg8 R X6 := by
  rw [cc0__fused_kernel_eq_skeleton]
  unfold cc0__fused_kernel_skel
  rw [dif_neg h1]
  exact tail_run c i arg6 arg7 arg8 R X6 X7 X8 hR

variable (X1 : arg1.view.ty.Contents (Elt F)) (X2 : arg2.view.ty.Contents (Elt F)) (X3 : arg3.view.ty.Contents (Elt F))
  (X4 : arg4.view.ty.Contents (Elt F)) (X5 : arg5.view.ty.Contents (Elt F))

/-- The record of spikes the first point leaves, from its six inputs' buffers. -/
abbrev recordOf : FVec F S32x2048 .f32 :=
  record (flipped (arg4.view.read (Elt F) X4)) (arg5.view.read (Elt F) X5)
    (currents (arg1.view.read (Elt F) X1) (arg2.view.read (Elt F) X2) (arg3.view.read (Elt F) X3))

theorem store_currents (X9 : arg9.view.ty.Contents (Elt F)) (v : FVec F S32x2048 .f32) :
    pt c arg9 X9
      ⊢ wp frame (wpE defs₀ 𝒱₀ (c : Thread nD τ) none) Set.univ
          (Prog.lift (.store arg9 (Rect.unit (s := S32x2048) ![0, 0] S32x2048.size inb_S32x2048_S32x2048_0_0) v Finset.univ (View.stores_vmem_bits_univ h_S32x2048 rfl) (.inl rfl)))
          fun _ => iprop(∃ f, pt c arg9 f ∗ ⌜arg9.view.read (Elt F) f = v⌝) := by
  iintro H9
  sl_exec
  sl_step
  iexists _
  isplitl [H9]; · iexact H9
  ipureintro
  exact View.read_writes_full arg9.view X9 inb_S32x2048_S32x2048_0_0 v []

theorem loop_run (h1 : k0_cond1 i = 1#1) (X9 : arg9.view.ty.Contents (Elt F)) (X10 : arg10.view.ty.Contents (Elt F))
    (X7 : arg7.view.ty.Contents (Elt F)) :
    iprop(pt c arg10 X10 ∗ pt c arg5 X5 ∗ pt c arg9 X9 ∗ pt c arg7 X7)
      ⊢ wp frame (wpE defs₀ 𝒱₀ (c : Thread nD τ) none) Set.univ
          (Scf.Loop.for k0_t1_loop (k0_t1_ok i h1) (k0_pay1 (F := F), k0_pay1 (F := F), k0_pay1 (F := F))
            (k0_t1_body i arg1 harg1 arg2 harg2 arg3 harg3 arg4 harg4 arg5 harg5 arg6 harg6 arg7 harg7 arg8 harg8 arg9 harg9 arg10 harg10 h1))
          fun _ => iprop(pt c arg10 X10 ∗ pt c arg5 X5 ∗ pt c arg9 X9 ∗ ∃ f, pt c arg7 f
            ∗ ⌜arg7.view.read (Elt F) f
                = record (arg10.view.read (Elt F) X10) (arg5.view.read (Elt F) X5) (arg9.view.read (Elt F) X9)⌝) := by
  iintro ⟨H10, H5, H9, H7⟩
  iapply (Scf.wp_for frame (wpE defs₀ 𝒱₀ (c : Thread nD τ) none) Set.univ _ _ _ _ _ _
    (linv c arg5 arg7 arg9 arg10 X5 X9 X10)
    (lstep c i arg1 harg1 arg2 harg2 arg3 harg3 arg4 harg4 arg5 harg5 arg6 harg6 arg7 harg7 arg8 harg8 arg9 harg9 arg10 harg10 h1 X5 X9 X10))
  isplitl [H10 H5 H9 H7]
  · unfold linv
    isplitl [H10]; · iexact H10
    isplitl [H5]; · iexact H5
    isplitl [H9]; · iexact H9
    isplitl [H7]
    · iexists X7
      isplitr [H7]
      · ipureintro; exact fun _ h => absurd h (Nat.not_lt_zero _)
      · iexact H7
    · ipureintro; rfl
  · iintro %acc HI
    unfold linv
    icases HI with ⟨H10, H5, H9, ⟨%f, %hf, H7⟩, -⟩
    isplitl [H10]; · iexact H10
    isplitl [H5]; · iexact H5
    isplitl [H9]; · iexact H9
    iexists f
    isplitl [H7]; · iexact H7
    ipureintro
    exact RowsBefore.done (trips_eq ▸ hf)

/-- The first point's buffers before it runs and after: the inputs as they were, the scratch at something. -/
def inputs : sProp 𝕄 :=
  iprop(pt c arg1 X1 ∗ pt c arg2 X2 ∗ pt c arg3 X3 ∗ pt c arg4 X4 ∗ pt c arg5 X5
    ∗ (∃ f, pt c arg9 f) ∗ ∃ f, pt c arg10 f)

theorem first_point (h1 : k0_cond1 i = 1#1) (X6 : arg6.view.ty.Contents (Elt F))
    (X7 : arg7.view.ty.Contents (Elt F)) (X8 : arg8.view.ty.Contents (Elt F)) :
    iprop(inputs c arg1 arg2 arg3 arg4 arg5 arg9 arg10 X1 X2 X3 X4 X5 ∗ pt c arg6 X6 ∗ pt c arg7 X7 ∗ pt c arg8 X8)
      ⊢ wp frame (wpE defs₀ 𝒱₀ (c : Thread nD τ) none) Set.univ
          (cc0__fused_kernel (F := F) i arg1 harg1 arg2 harg2 arg3 harg3 arg4 harg4 arg5 harg5 arg6 harg6 arg7 harg7 arg8 harg8 arg9 harg9 arg10 harg10)
          fun _ => iprop(inputs c arg1 arg2 arg3 arg4 arg5 arg9 arg10 X1 X2 X3 X4 X5
            ∗ done c i arg6 arg7 arg8 (recordOf arg1 arg2 arg3 arg4 arg5 X1 X2 X3 X4 X5) X6) := by
  rw [cc0__fused_kernel_eq_skeleton]
  unfold cc0__fused_kernel_skel inputs
  rw [dif_pos h1]
  iintro ⟨⟨H1, H2, H3, H4, H5, ⟨%X9, H9⟩, ⟨%X10, H10⟩⟩, H6, H7, H8⟩
  rw [wp_bind]
  iapply (wp_wand_r Idealize.ShloMosaic.frame (wpE defs₀ 𝒱₀ (c : Thread nD τ) none) Set.univ)
  isplitl [H4 H10]
  · iapply (part1_fills c i arg1 harg1 arg2 harg2 arg3 harg3 arg4 harg4 arg5 harg5 arg6 harg6 arg7 harg7 arg8 harg8 arg9 harg9 arg10 harg10 X4)
    unfold filled
    isplitl [H4]; · iexact H4
    iexists X10
    isplitl [H10]; · iexact H10
    ipureintro; exact ColsBefore.zero _ _
  iintro %_ HF
  rw [wp_bind]
  iapply (wp_wand_r Idealize.ShloMosaic.frame (wpE defs₀ 𝒱₀ (c : Thread nD τ) none) Set.univ)
  isplitl [HF]
  · iapply (part2_fills c i arg1 harg1 arg2 harg2 arg3 harg3 arg4 harg4 arg5 harg5 arg6 harg6 arg7 harg7 arg8 harg8 arg9 harg9 arg10 harg10 X4); iexact HF
  iintro %_ HF
  rw [wp_bind]
  iapply (wp_wand_r Idealize.ShloMosaic.frame (wpE defs₀ 𝒱₀ (c : Thread nD τ) none) Set.univ)
  isplitl [H1 H2 H3 H9 HF]
  · iapply (part3_fills c i arg1 harg1 arg2 harg2 arg3 harg3 arg4 harg4 arg5 harg5 arg6 harg6 arg7 harg7 arg8 harg8 arg9 harg9 arg10 harg10 X4 X1 X2 X3 X9)
    isplitl [H1]; · iexact H1
    isplitl [H2]; · iexact H2
    isplitl [H3]; · iexact H3
    isplitl [H9]; · iexact H9
    iexact HF
  iintro %v ⟨%hv, H1, H2, H3, H9, HF⟩
  unfold filled
  icases HF with ⟨H4, %g10, H10, %hg10⟩
  rw [wp_bind]
  iapply (wp_wand_r Idealize.ShloMosaic.frame (wpE defs₀ 𝒱₀ (c : Thread nD τ) none) Set.univ)
  isplitl [H9]
  · iapply (store_currents c arg9 X9 v); iexact H9
  iintro %_ ⟨%g9, H9, %hg9⟩
  rw [wp_bind]
  iapply (wp_wand_r Idealize.ShloMosaic.frame (wpE defs₀ 𝒱₀ (c : Thread nD τ) none) Set.univ)
  isplitl [H10 H5 H9 H7]
  · iapply (loop_run c i arg1 harg1 arg2 harg2 arg3 harg3 arg4 harg4 arg5 harg5 arg6 harg6 arg7 harg7 arg8 harg8 arg9 harg9 arg10 harg10 X5 h1 g9 g10 X7)
    isplitl [H10]; · iexact H10
    isplitl [H5]; · iexact H5
    isplitl [H9]; · iexact H9
    iexact H7
  iintro %_ ⟨H10, H5, H9, %g7, H7, %hg7⟩
  iapply (wp_wand_r Idealize.ShloMosaic.frame (wpE defs₀ 𝒱₀ (c : Thread nD τ) none) Set.univ)
  isplitl [H6 H7 H8]
  · iapply (tail_run c i arg6 arg7 arg8 (recordOf arg1 arg2 arg3 arg4 arg5 X1 X2 X3 X4 X5) X6 g7 X8
      (by rw [hg7, hg10.done, hg9, hv]))
    isplitl [H6]; · iexact H6
    isplitl [H7]; · iexact H7
    iexact H8
  iintro %_ HD
  isplitr [HD]
  · isplitl [H1]; · iexact H1
    isplitl [H2]; · iexact H2
    isplitl [H3]; · iexact H3
    isplitl [H4]; · iexact H4
    isplitl [H5]; · iexact H5
    isplitl [H9]; · iexists _; iexact H9
    iexists _; iexact H10
  iexact HD

end Whole

end Cert.Proof.KernelIdeal

end
-- ==== Proof.Run.lean ====
/- The pipeline's proof data, its body obligation, and the kernel's run: every execution terminates with the arguments
   unchanged, no semaphore raised, and the two result arrays at what the proof data computes. -/
module

public import proofs.«01_k».proof.Proof.Body
public import proofs.«01_k».proof.Proof.Gen.KernelIdeal.Frame
public import Idealize.ShloMosaic.Lib.Pipeline.TableIdle
public import Idealize.ShloMosaic.Lib.Pipeline.FrameSuffix
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The record of spikes of all 32 steps, from what the first point's windows hold. -/
def spikes (c : Dev nD) : FVec F S32x2048 .f32 :=
  record (flipped (iblk m c 3 t0_0)) (iblk m c 4 t0_0) (currents (iblk m c 0 t0_0) (iblk m c 1 t0_0) (iblk m c 2 t0_0))

/-- The proof data: the arrays as the region finds them; the inputs' buffers left as they are, the record in its
    buffer at every point, each point's rows of the plastic weights updated. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => spikes m c
    | ⟨7, _⟩ => updated (grid0.coords t) (spikes m c) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = spikes m c := by dsimp only [dats]
theorem after7 (c : Dev nD) (t : Fin cfg0.N) :
    (dats m 0 c).after 7 t = updated (grid0.coords t) (spikes m c) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The record's buffer is fresh at the first point only. -/
theorem fresh6 : ∀ t : Fin cfg0.N, t.val ≠ 0 → cfg0.fresh 6 t.val = false := by decide +kernel

/-- The first point is the one that fills the record. -/
theorem cond_iff : ∀ t : Fin grid0.N, k0_cond1 (grid0.coords t) = 1#1 ↔ t.val = 0 := by decide +kernel

/-- At a later point the record's buffer holds the record. -/
theorem before6 (c : Dev nD) (t : Fin cfg0.N) (ht : t.val ≠ 0) (d) : (dats m 0 c).before 6 t d = spikes m c := by
  rw [(dats m 0 c).before_out_traj 6 rfl (fun _ _ => rfl) (fun t _ _ _ => by rw [after6, after6]) t.val t rfl d,
    fresh6 t ht, after6]
  rfl

/-! ## The body at any point -/

/-- Owning a whole buffer at what it reads is holding it at some contents that read so. -/
theorem owns_of {c : Dev nD} {s : Shape} {e : EltTy} {M : Memref sig .tc .vmem s e} (h : M.IsWhole) (X : s.Idx → Elt F e) :
    (owns (c : Thread nD τ) M fullShare X : sProp 𝕄) ⊢ iprop(∃ f, pt c M f ∗ ⌜M.view.read (Elt F) f = X⌝) := by
  unfold owns pt
  rw [h.set_eq_univ]
  iintro ⟨%f, %hf, H⟩
  iexists f
  isplitl [H]; · iexact H
  ipureintro; exact hf

theorem of_owns {c : Dev nD} {s : Shape} {e : EltTy} {M : Memref sig .tc .vmem s e} (h : M.IsWhole) (X : s.Idx → Elt F e) :
    iprop(∃ f, pt c M f ∗ ⌜M.view.read (Elt F) f = X⌝) ⊢ (owns (c : Thread nD τ) M fullShare X : sProp 𝕄) := by
  unfold owns pt
  rw [h.set_eq_univ]
  iintro ⟨%f, H, %hf⟩
  iexists f
  isplitr [H]
  · ipureintro; exact hf
  iexact H

/-- What is left of the record's buffer, as the obligation asks it: kept at the points that leave it alone. -/
def recordPost (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem idle6_zero : ∀ t : Fin cfg0.N, t.val = 0 → cfg0.idle 6 (cfg0.grid.coords t) = false := by decide +kernel

theorem recordPost_of (c : Dev nD) (t : Fin cfg0.N) :
    owns (c : Thread nD τ) (st0_6 t) fullShare (spikes m c) ⊢ recordPost m c t := by
  unfold recordPost
  rw [after6]
  by_cases h0 : t.val = 0
  · rw [idle6_zero t h0]
  · split
    · split
      · iintro H
        iexists (spikes m c)
        rw [before6 m c t h0]
        iexact H
      · exact .rfl
    · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ recordPost m c t
    ∗ owns (c : Thread nD τ) (st0_7 t) fullShare ((dats m 0 c).after 7 t))

abbrev wh0 (t : Fin cfg0.N) : (st0_0 t).IsWhole := hstage0_0 ((cfg0.slots t 0).cast nbuf0_0)
abbrev wh1 (t : Fin cfg0.N) : (st0_1 t).IsWhole := hstage0_1 ((cfg0.slots t 1).cast nbuf0_1)
abbrev wh2 (t : Fin cfg0.N) : (st0_2 t).IsWhole := hstage0_2 ((cfg0.slots t 2).cast nbuf0_2)
abbrev wh3 (t : Fin cfg0.N) : (st0_3 t).IsWhole := hstage0_3 ((cfg0.slots t 3).cast nbuf0_3)
abbrev wh4 (t : Fin cfg0.N) : (st0_4 t).IsWhole := hstage0_4 ((cfg0.slots t 4).cast nbuf0_4)
abbrev wh5 (t : Fin cfg0.N) : (st0_5 t).IsWhole := hstage0_5 ((cfg0.slots t 5).cast nbuf0_5)
abbrev wh6 (t : Fin cfg0.N) : (st0_6 t).IsWhole := hstage0_6 ((cfg0.slots t 6).cast nbuf0_6)
abbrev wh7 (t : Fin cfg0.N) : (st0_7 t).IsWhole := hstage0_7 ((cfg0.slots t 7).cast nbuf0_7)

/-- What a point leaves of the record's and the plastic weights' buffers. -/
theorem done_gives (c : Dev nD) (t : Fin cfg0.N) (f5 : (st0_5 t).view.ty.Contents (Elt F))
    (h5 : (st0_5 t).view.read (Elt F) f5 = iblk m c 5 t) :
    done c (grid0.coords t) (st0_5 t) (st0_6 t) (st0_7 t) (spikes m c) f5
      ⊢ iprop(owns (c : Thread nD τ) (st0_5 t) fullShare ((dats m 0 c).after 5 t) ∗ recordPost m c t
        ∗ owns (c : Thread nD τ) (st0_7 t) fullShare ((dats m 0 c).after 7 t)) := by
  unfold done
  rw [after5, after7]
  iintro ⟨H5, H6, %f7, H7, %h7⟩
  isplitl [H5]
  · iapply (of_owns (wh5 t)); iexists f5
    isplitl [H5]; · iexact H5
    ipureintro; exact h5
  isplitl [H6]
  · iapply (recordPost_of m c t); iapply (of_owns (wh6 t)); iexact H6
  iapply (of_owns (wh7 t)); iexists f7
  isplitl [H7]; · iexact H7
  ipureintro; rw [h7, h5]

theorem sound_body_first (c : Dev nD) (t : Fin cfg0.N) (ht : t.val = 0) :
    bodyPre m c t ⊢ wp frame (wpE (defs₀ (F := F)) 𝒱₀ (c : Thread nD τ) none) Set.univ (bodyAt0 t) (fun _ => bodyPost m c t) := by
  obtain rfl : t = t0_0 := Fin.ext ht
  unfold bodyPre bodyPost bodyAt0
  simp only [before0, before1, before2, before3, before4, before5]
  rw [show (dats m 0 c).Φ t0_0.succ = (dats m 0 c).Φ t0_0.castSucc from rfl,
    show (dats m 0 c).owesAt () t0_0.succ = (dats m 0 c).owesAt () t0_0.castSucc from rfl,
    show (dats m 0 c).Φ t0_0.castSucc = Pipeline.ΦA spec0 c from rfl]
  unfold Pipeline.ΦA
  rw [scopedRest0_eq]
  iintro ⟨⟨⟨⟨%X9, H9⟩, ⟨%X10, H10⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (owns_of (wh0 t0_0) _) $$ H0
  ihave H1 := (owns_of (wh1 t0_0) _) $$ H1
  ihave H2 := (owns_of (wh2 t0_0) _) $$ H2
  ihave H3 := (owns_of (wh3 t0_0) _) $$ H3
  ihave H4 := (owns_of (wh4 t0_0) _) $$ H4
  ihave H5 := (owns_of (wh5 t0_0) _) $$ H5
  ihave H6 := (owns_of (wh6 t0_0) _) $$ H6
  ihave H7 := (owns_of (wh7 t0_0) _) $$ H7
  icases H0 with ⟨%f0, H0, %h0⟩
  icases H1 with ⟨%f1, H1, %h1⟩
  icases H2 with ⟨%f2, H2, %h2⟩
  icases H3 with ⟨%f3, H3, %h3⟩
  icases H4 with ⟨%f4, H4, %h4⟩
  icases H5 with ⟨%f5, H5, %h5⟩
  icases H6 with ⟨%f6, H6, -⟩
  icases H7 with ⟨%f7, H7, -⟩
  iapply (wp_wand_r Idealize.ShloMosaic.frame (wpE defs₀ 𝒱₀ (c : Thread nD τ) none) Set.univ)
  isplitl [H0 H1 H2 H3 H4 H5 H6 H7 H9 H10]
  · iapply (first_point c (grid0.coords t0_0) (st0_0 t0_0) (wh0 t0_0) (st0_1 t0_0) (wh1 t0_0) (st0_2 t0_0) (wh2 t0_0) (st0_3 t0_0) (wh3 t0_0)
      (st0_4 t0_0) (wh4 t0_0) (st0_5 t0_0) (wh5 t0_0) (st0_6 t0_0) (wh6 t0_0) (st0_7 t0_0) (wh7 t0_0)
      (Memref.whole cc0_scratch0) (Memref.isWhole_whole _) (Memref.whole cc0_scratch1) (Memref.isWhole_whole _)
      f0 f1 f2 f3 f4 ((cond_iff t0_0).2 rfl) f5 f6 f7)
    unfold inputs
    isplitr [H5 H6 H7]
    · isplitl [H0]; · iexact H0
      isplitl [H1]; · iexact H1
      isplitl [H2]; · iexact H2
      isplitl [H3]; · iexact H3
      isplitl [H4]; · iexact H4
      isplitl [H9]; · iexists X9; iexact H9
      iexists X10; iexact H10
    isplitl [H5]; · iexact H5
    isplitl [H6]; · iexact H6
    iexact H7
  rw [show recordOf (st0_0 t0_0) (st0_1 t0_0) (st0_2 t0_0) (st0_3 t0_0) (st0_4 t0_0) f0 f1 f2 f3 f4 = spikes m c by
    unfold recordOf spikes; rw [h0, h1, h2, h3, h4]]
  iintro %_ ⟨HI, HD⟩
  unfold inputs
  icases HI with ⟨H0, H1, H2, H3, H4, H9, H10⟩
  ihave HD := (done_gives m c t0_0 f5 h5) $$ HD
  isplitl [H9 H10 HP]
  · isplitl [H9 H10]
    · isplitl [H9]; · iexact H9
      iexact H10
    iexact HP
  isplitl [Ho]; · iexact Ho
  isplitl [H0]
  · iapply (of_owns (wh0 t0_0)); iexists f0
    isplitl [H0]; · iexact H0
    ipureintro; exact h0
  isplitl [H1]
  · iapply (of_owns (wh1 t0_0)); iexists f1
    isplitl [H1]; · iexact H1
    ipureintro; exact h1
  isplitl [H2]
  · iapply (of_owns (wh2 t0_0)); iexists f2
    isplitl [H2]; · iexact H2
    ipureintro; exact h2
  isplitl [H3]
  · iapply (of_owns (wh3 t0_0)); iexists f3
    isplitl [H3]; · iexact H3
    ipureintro; exact h3
  isplitl [H4]
  · iapply (of_owns (wh4 t0_0)); iexists f4
    isplitl [H4]; · iexact H4
    ipureintro; exact h4
  iexact HD

theorem sound_body_later (c : Dev nD) (t : Fin cfg0.N) (ht : t.val ≠ 0) :
    bodyPre m c t ⊢ wp frame (wpE (defs₀ (F := F)) 𝒱₀ (c : Thread nD τ) none) Set.univ (bodyAt0 t) (fun _ => bodyPost m c t) := by
  unfold bodyPre bodyPost bodyAt0
  simp only [before0, before1, before2, before3, before4, before5, before6 m c t ht]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave H5 := (owns_of (wh5 t) _) $$ H5
  ihave H6 := (owns_of (wh6 t) _) $$ H6
  ihave H7 := (owns_of (wh7 t) _) $$ H7
  icases H5 with ⟨%f5, H5, %h5⟩
  icases H6 with ⟨%f6, H6, %h6⟩
  icases H7 with ⟨%f7, H7, -⟩
  iapply (wp_wand_r Idealize.ShloMosaic.frame (wpE defs₀ 𝒱₀ (c : Thread nD τ) none) Set.univ)
  isplitl [H5 H6 H7]
  · iapply (later_points c (grid0.coords t) (st0_0 t) (wh0 t) (st0_1 t) (wh1 t) (st0_2 t) (wh2 t) (st0_3 t) (wh3 t)
      (st0_4 t) (wh4 t) (st0_5 t) (wh5 t) (st0_6 t) (wh6 t) (st0_7 t) (wh7 t)
      (Memref.whole cc0_scratch0) (Memref.isWhole_whole _) (Memref.whole cc0_scratch1) (Memref.isWhole_whole _)
      (fun h => ht ((cond_iff t).1 h)) (spikes m c) f5 f6 f7 h6)
    isplitl [H5]; · iexact H5
    isplitl [H6]; · iexact H6
    iexact H7
  iintro %_ HD
  ihave HD := (done_gives m c t f5 h5) $$ HD
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact HD

theorem sound_body (c : Dev nD) (t : Fin cfg0.N) :
    bodyPre m c t ⊢ wp frame (wpE (defs₀ (F := F)) 𝒱₀ (c : Thread nD τ) none) Set.univ (bodyAt0 t) (fun _ => bodyPost m c t) :=
  if ht : t.val = 0 then sound_body_first m c t ht else sound_body_later m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- The run: the arrays at what the proof data computes, the reshaped record read off it, no semaphore raised. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The kernel's frame: it terminates, the arguments unchanged and no semaphore raised. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.RefRun.lean ====
/-
  The reference's run, read as one step iterated: the loop of the printed reference carries a state (the neurons' spikes, currents
  and voltages, the weights, the record of spikes and the constant arguments), one trip of it is `Step.step`, and the results
  are two fields of the state after 32 trips.
-/
module

public import proofs.«01_k».proof.Proof.Gen.ReferenceIdeal.Run
public import proofs.«01_k».proof.Proof.Gen.ReferenceIdeal.Step

@[expose] public section

set_option maxRecDepth 65536

noncomputable section

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The loop's buffers hold the state `s`, and its counter the trip number `j`. -/
structure Carries (V0 : Valuation τ sig (Elt F)) (s : State F) (j : ℕ) : Prop where
  x : V0 (Proc.devRef .tc main_v2_0) = s.main_v2_0
  win : V0 (Proc.devRef .tc main_v2_1) = s.main_v2_1
  b1 : V0 (Proc.devRef .tc main_v2_2) = s.main_v2_2
  v : V0 (Proc.devRef .tc main_v2_3) = s.main_v2_3
  brec : V0 (Proc.devRef .tc main_v2_4) = s.main_v2_4
  n : V0 (Proc.devRef .tc main_v2_5) = constantI S_ 32 (BitVec.ofNat 32 j)
  spk : V0 (Proc.devRef .tc main_v2_6) = s.main_v2_6
  syn : V0 (Proc.devRef .tc main_v2_7) = s.main_v2_7
  mem : V0 (Proc.devRef .tc main_v2_8) = s.main_v2_8
  w : V0 (Proc.devRef .tc main_v2_9) = s.main_v2_9
  rec' : V0 (Proc.devRef .tc main_v2_10) = s.main_v2_10

variable {V0 : Valuation τ sig (Elt F)} {s : State F} {j : ℕ}

theorem syn_eq (h : Carries V0 s j) : res_main_while0b_v15 V0 = b16 j s := by
  unfold res_main_while0b_v15
  rw [h.x, h.win, h.b1, h.v, h.brec, h.n, h.spk, h.syn]
  rfl

theorem mem_eq (h : Carries V0 s j) : res_main_while0b_v21 V0 = b24 j s := by
  unfold res_main_while0b_v21
  rw [syn_eq h, h.mem, h.spk]
  rfl

theorem spk_eq (h : Carries V0 s j) : res_main_while0b_v26 V0 = b31 j s := by
  unfold res_main_while0b_v26
  rw [mem_eq h]
  rfl

theorem w_eq (h : Carries V0 s j) : Value.step_main_v2_9 V0 = b50 j s := by
  unfold Value.step_main_v2_9
  rw [spk_eq h, h.w, h.spk]
  rfl

theorem rec_eq (h : Carries V0 s j) : Value.step_main_v2_10 V0 = b54 j s := by
  unfold Value.step_main_v2_10
  rw [spk_eq h, h.rec', h.n]
  rfl

theorem n_eq (h : Carries V0 s j) : Value.step_main_v2_5 V0 = constantI S_ 32 (BitVec.ofNat 32 (j + 1)) := by
  unfold Value.step_main_v2_5
  rw [h.n]
  funext i
  show BitVec.ofNat 32 j + 1#32 = BitVec.ofNat 32 (j + 1)
  simp only [BitVec.ofNat_add]

/-- One trip takes a state to its step. -/
theorem Carries.next (h : Carries V0 s j) : Carries (STEP V0) (step j s) (j + 1) where
  x := (STEP_main_v2_0 V0).trans h.x
  win := (STEP_main_v2_1 V0).trans h.win
  b1 := (STEP_main_v2_2 V0).trans h.b1
  v := (STEP_main_v2_3 V0).trans h.v
  brec := (STEP_main_v2_4 V0).trans h.brec
  n := (STEP_main_v2_5 V0).trans (n_eq h)
  spk := (STEP_main_v2_6 V0).trans (spk_eq h)
  syn := (STEP_main_v2_7 V0).trans (syn_eq h)
  mem := (STEP_main_v2_8 V0).trans (mem_eq h)
  w := (STEP_main_v2_9 V0).trans (w_eq h)
  rec' := (STEP_main_v2_10 V0).trans (rec_eq h)

variable (m : (ℓ : Loc nD τ sig) → Buf (Elt F) ℓ) (ρ : Dev nD → PrngReg) (c : Dev nD)

/-- The state before trip `k`. -/
def stateAt : ℕ → State F
  | 0 => init (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  | k + 1 => step k (stateAt k)

set_option maxHeartbeats 400000 in
/-- What the reference computes before its loop is the first state. -/
theorem carries_entry : Carries (entryContents preI m c) (stateAt m c 0) 0 := by
  constructor <;> (simp only [entryContents, afterL_cons, afterL_nil]; after_reads_simp) <;> rfl

theorem carries_at : ∀ k, Carries (STEP^[k] (entryContents preI m c)) (stateAt m c k) k
  | 0 => carries_entry m c
  | k + 1 => by
    rw [Function.iterate_succ_apply']
    exact (carries_at k).next

/-- The reference's run: the two results are fields of the state after the last trip, and the arguments
    are unchanged. -/
theorem run_states : θ_run (defs (F := F)) (onTc (τ := τ) (main (F := F))) ⟨m, fun _ => 0, ρ⟩ fun r => ∀ c : Dev nD,
      r.2.mem ((c.tc : Thread nD τ).loc main_v2_10) = (stateAt m c 32).main_v2_10
      ∧ r.2.mem ((c.tc : Thread nD τ).loc main_v2_9) = (stateAt m c 32).main_v2_9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (carries_at m c 32).rec', (h c).2.1.trans (carries_at m c 32).w, (h c).2.2⟩) (run m ρ)

end Cert.ReferenceIdeal.Iter

end
-- ==== Proof.Frames.lean ====
/- The frames of the three programs: each terminates with its arguments unchanged and no semaphore raised. The printed
   kernel is the idealized one's text, so its frame is the same theorem read at the machine's floats. -/
module

public import proofs.«01_k».proof.Defs
public import proofs.«01_k».proof.Proof.Gen.Kernel
public import proofs.«01_k».proof.Proof.Gen.ReferenceIdeal
public import proofs.«01_k».proof.Proof.Run
public import proofs.«01_k».proof.Proof.RefRun
public import Idealize.ShloMosaic.Lib.Quiescent

@[expose] public section

set_option maxRecDepth 65536

noncomputable section

namespace Cert.Proof

open Idealize.ShloMosaic Idealize.ShloMosaic.TcCoe Idealize.SL.Sem

instance preFacts : Cert.Pre_weights_at_most_one.Facts := ⟨by decide⟩

section Same

variable {F : FTy → Type} [FloatOps F]

set_option backward.isDefEq.respectTransparency false

/-- The two programs' body tables are one: the printed kernel's text is the idealized kernel's. -/
theorem defs₀_eq : Cert.Kernel.defs₀ (F := F) = Cert.KernelIdeal.defs₀ (F := F) := by
  funext p ℓ a
  cases p with
  | tc =>
    obtain ⟨ℓ, h⟩ := ℓ
    obtain rfl : ℓ = 0 := by change ℓ < 1 at h; omega
    rfl
  | scScalar _ => rfl
  | scVector _ _ => rfl

theorem defs_eq : Cert.Kernel.defs (F := F) = Cert.KernelIdeal.defs (F := F) := by
  unfold Cert.Kernel.defs Cert.KernelIdeal.defs
  rw [defs₀_eq]
  rfl

theorem quiescent_Kernel : Cert.quiescent_Kernel (hKernel := Cert.Kernel.Gen.facts) := by
  intro m ρ _
  rw [defs_eq]
  exact Cert.Proof.KernelIdeal.frame_run (F := Bits) m ρ

end Same

theorem quiescent_KernelIdeal : Cert.quiescent_KernelIdeal (hKernelIdeal := Cert.KernelIdeal.Gen.facts) :=
  fun m ρ _ => Cert.Proof.KernelIdeal.frame_run (F := Ideal) m ρ

theorem quiescent_ReferenceIdeal : Cert.quiescent_ReferenceIdeal (hReferenceIdeal := Cert.ReferenceIdeal.Gen.facts) :=
  fun m ρ _ => (θ_run _ _ _).mono
    (fun r h => ⟨fun c => (h c).2.2, sem_eq_zero_of_no_sems (by decide) r.2⟩) (Cert.ReferenceIdeal.Iter.run_states m ρ)

end Cert.Proof

end
-- ==== Proof.Arrays.lean ====
/- What the kernel's arrays hold when it ends, as functions of its arguments: the blocks the windows read, the record of
   spikes reshaped, and the plastic weights put together from the eight points' rows. -/
module

public import proofs.«01_k».proof.Proof.Run
public import Idealize.ShloMosaic.Lib.Pipeline.Value
public import Idealize.ShloMosaic.Lib.ValueLayout
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The blocks the windows read -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem emb0 (t : Fin cfg0.N) (j : S32x512.Idx) : ((cfg0.win 0).blk t).view.emb j = j := by
  obtain ⟨e0, e1⟩ := idx0 t
  funext a; apply Fin.ext
  match a with
  | ⟨0, _⟩ => show win0_0.index t (0 : Fin 2) * 32 + 1 * (j 0).val = (j 0).val; omega
  | ⟨1, _⟩ => show win0_0.index t (1 : Fin 2) * 512 + 1 * (j 1).val = (j 1).val; omega
theorem emb1 (t : Fin cfg0.N) (j : S2048x512.Idx) : ((cfg0.win 1).blk t).view.emb j = j := by
  obtain ⟨e0, e1⟩ := idx1 t
  funext a; apply Fin.ext
  match a with
  | ⟨0, _⟩ => show win0_1.index t (0 : Fin 2) * 2048 + 1 * (j 0).val = (j 0).val; omega
  | ⟨1, _⟩ => show win0_1.index t (1 : Fin 2) * 512 + 1 * (j 1).val = (j 1).val; omega
theorem emb2 (t : Fin cfg0.N) (j : S1x2048.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega
theorem emb3 (t : Fin cfg0.N) (j : S2048x2048.Idx) : ((cfg0.win 3).blk t).view.emb j = j := by
  obtain ⟨e0, e1⟩ := idx3 t
  funext a; apply Fin.ext
  match a with
  | ⟨0, _⟩ => show win0_3.index t (0 : Fin 2) * 2048 + 1 * (j 0).val = (j 0).val; omega
  | ⟨1, _⟩ => show win0_3.index t (1 : Fin 2) * 2048 + 1 * (j 1).val = (j 1).val; omega
theorem emb4 (t : Fin cfg0.N) (j : S1x2048.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem emb6 (t : Fin cfg0.N) (j : S32x2048.Idx) : ((cfg0.win 6).blk t).view.emb j = j := by
  obtain ⟨e0, e1⟩ := idx6 t
  funext a; apply Fin.ext
  match a with
  | ⟨0, _⟩ => show win0_6.index t (0 : Fin 2) * 32 + 1 * (j 0).val = (j 0).val; omega
  | ⟨1, _⟩ => show win0_6.index t (1 : Fin 2) * 2048 + 1 * (j 1).val = (j 1).val; omega

/-- Place `j` of point `t`'s rows, as a place of the whole array of weights. -/
def rowsAt (t : Fin cfg0.N) (j : S256x2048.Idx) : S2048x2048.Idx :=
  ix2 ⟨256 * t.val + (j 0).val, by have := ValueIdx.idx2_lt0 j; have h := t.isLt; change _ < 8 at h; omega⟩ ⟨(j 1).val, ValueIdx.idx2_lt1 j⟩

theorem emb5 (t : Fin cfg0.N) (j : S256x2048.Idx) : ((cfg0.win 5).blk t).view.emb j = rowsAt t j := by
  obtain ⟨e0, e1⟩ := idx5 t
  funext a; apply Fin.ext
  match a with
  | ⟨0, _⟩ => show win0_5.index t (0 : Fin 2) * 256 + 1 * (j 0).val = 256 * t.val + (j 0).val; omega
  | ⟨1, _⟩ => show win0_5.index t (1 : Fin 2) * 2048 + 1 * (j 1).val = (j 1).val; omega
theorem emb7 (t : Fin cfg0.N) (j : S256x2048.Idx) : ((cfg0.win 7).blk t).view.emb j = rowsAt t j := by
  obtain ⟨e0, e1⟩ := idx7 t
  funext a; apply Fin.ext
  match a with
  | ⟨0, _⟩ => show win0_7.index t (0 : Fin 2) * 256 + 1 * (j 0).val = 256 * t.val + (j 0).val; omega
  | ⟨1, _⟩ => show win0_7.index t (1 : Fin 2) * 2048 + 1 * (j 1).val = (j 1).val; omega

/-- The reshapes before the launch. -/
theorem V_main_v0 (c : Dev nD) :
    V m c main_v0 = shapeCast S32x512 (m ((c : Thread nD τ).loc main_arg0)) shapeCasts_S32x1x512_S32x512 := by
  show StableHlo.after hostOps0 _ (Proc.devRef .tc main_v0) = _
  unfold hostOps0
  after_results
  rfl
theorem V_main_v1 (c : Dev nD) :
    V m c main_v1 = shapeCast S1x2048 (m ((c : Thread nD τ).loc main_arg2)) shapeCasts_S2048_S1x2048 := by
  show StableHlo.after hostOps0 _ (Proc.devRef .tc main_v1) = _
  unfold hostOps0
  after_results
  rfl
theorem V_main_v2 (c : Dev nD) :
    V m c main_v2 = shapeCast S1x2048 (m ((c : Thread nD τ).loc main_arg4)) shapeCasts_S2048_S1x2048 := by
  show StableHlo.after hostOps0 _ (Proc.devRef .tc main_v2) = _
  unfold hostOps0
  after_results
  rfl

theorem iblk0_eq (c : Dev nD) (t : Fin cfg0.N) :
    iblk m c 0 t = shapeCast S32x512 (m ((c : Thread nD τ).loc main_arg0)) shapeCasts_S32x1x512_S32x512 := by
  rw [← V_main_v0]
  funext j; show V m c main_v0 (((cfg0.win 0).blk t).view.emb j) = V m c main_v0 j; rw [emb0]
theorem iblk1_eq (c : Dev nD) (t : Fin cfg0.N) : iblk m c 1 t = m ((c : Thread nD τ).loc main_arg1) := by
  rw [← V_main_arg1 m c]
  funext j; show V m c main_arg1 (((cfg0.win 1).blk t).view.emb j) = V m c main_arg1 j; rw [emb1]
theorem iblk2_eq (c : Dev nD) (t : Fin cfg0.N) :
    iblk m c 2 t = shapeCast S1x2048 (m ((c : Thread nD τ).loc main_arg2)) shapeCasts_S2048_S1x2048 := by
  rw [← V_main_v1]
  funext j; show V m c main_v1 (((cfg0.win 2).blk t).view.emb j) = V m c main_v1 j; rw [emb2]
theorem iblk3_eq (c : Dev nD) (t : Fin cfg0.N) : iblk m c 3 t = m ((c : Thread nD τ).loc main_arg3) := by
  rw [← V_main_arg3 m c]
  funext j; show V m c main_arg3 (((cfg0.win 3).blk t).view.emb j) = V m c main_arg3 j; rw [emb3]
theorem iblk4_eq (c : Dev nD) (t : Fin cfg0.N) :
    iblk m c 4 t = shapeCast S1x2048 (m ((c : Thread nD τ).loc main_arg4)) shapeCasts_S2048_S1x2048 := by
  rw [← V_main_v2]
  funext j; show V m c main_v2 (((cfg0.win 4).blk t).view.emb j) = V m c main_v2 j; rw [emb4]
theorem iblk5_eq (c : Dev nD) (t : Fin cfg0.N) :
    iblk m c 5 t = fun j => m ((c : Thread nD τ).loc main_arg5) (rowsAt t j) := by
  rw [← V_main_arg5 m c]
  funext j; show V m c main_arg5 (((cfg0.win 5).blk t).view.emb j) = V m c main_arg5 _; rw [emb5]

/-! ## The record -/

theorem cut6_eq (t : Fin cfg0.N) (X : FVec F S32x2048 .f32) :
    (cfg0.win 6).cut (grid0.coords t) X = ((cfg0.win 6).blk t).view.read (Elt F) X := by
  funext j
  show X j = X (((cfg0.win 6).blk t).view.emb j)
  rw [emb6]

theorem record_array (c : Dev nD) : (dats m 0 c).arrAt 6 cfg0.N = spikes m c := by
  refine (dats m 0 c).arrAt_eq_of_cover 6 (spikes m c) (fun t _ => ?_) fun i => ⟨⟨7, by decide⟩, ?_, ?_⟩
  · show (cfg0.win 6).cut (grid0.coords t) ((dats m 0 c).after 6 t) = _
    rw [after6]; exact cut6_eq t _
  · exact (flush0_6 _).2 rfl
  · have h := ((cfg0.win 6).blk (⟨7, by decide⟩ : Fin cfg0.N)).view.emb_mem_set i
    rwa [emb6] at h

/-! ## The plastic weights -/

/-- The point whose rows hold row `y 0`. -/
def pointOf (y : S2048x2048.Idx) : Fin cfg0.N :=
  ⟨(y 0).val / 256, by have := ValueIdx.idx2_lt0 y; change _ < 8; omega⟩

/-- And the place in those rows. -/
def placeOf (y : S2048x2048.Idx) : S256x2048.Idx :=
  ix2 ⟨(y 0).val % 256, Nat.mod_lt _ (by decide)⟩ ⟨(y 1).val, ValueIdx.idx2_lt1 y⟩

theorem rowsAt_of (y : S2048x2048.Idx) : rowsAt (pointOf y) (placeOf y) = y := by
  funext a; apply Fin.ext
  match a with
  | ⟨0, _⟩ => show 256 * ((y 0).val / 256) + (y 0).val % 256 = (y 0).val; omega
  | ⟨1, _⟩ => rfl

theorem pointOf_rowsAt (t : Fin cfg0.N) (j : S256x2048.Idx) : pointOf (rowsAt t j) = t := by
  have := ValueIdx.idx2_lt0 j
  apply Fin.ext
  show (256 * t.val + (j 0).val) / 256 = t.val
  omega

theorem placeOf_rowsAt (t : Fin cfg0.N) (j : S256x2048.Idx) : placeOf (rowsAt t j) = j := by
  have := ValueIdx.idx2_lt0 j
  funext a; apply Fin.ext
  match a with
  | ⟨0, _⟩ => show (256 * t.val + (j 0).val) % 256 = (j 0).val; omega
  | ⟨1, _⟩ => rfl

/-- The plastic weights the kernel leaves. -/
def weights (c : Dev nD) : FVec F S2048x2048 .f32 := fun y =>
  updated (grid0.coords (pointOf y)) (spikes m c) (iblk m c 5 (pointOf y)) (placeOf y)

theorem weights_array (c : Dev nD) : (dats m 0 c).arrAt 7 cfg0.N = weights m c := by
  refine (dats m 0 c).arrAt_eq_of_cover 7 (weights m c) (fun t _ => ?_) fun i => ⟨pointOf i, flush0_7 _, ?_⟩
  · show (cfg0.win 7).cut (grid0.coords t) ((dats m 0 c).after 7 t) = _
    rw [after7]
    funext j
    show updated (grid0.coords t) (spikes m c) (iblk m c 5 t) j = weights m c (((cfg0.win 7).blk t).view.emb j)
    rw [emb7]
    unfold weights
    rw [pointOf_rowsAt, placeOf_rowsAt]
  · have h := ((cfg0.win 7).blk (pointOf i)).view.emb_mem_set (placeOf i)
    rwa [emb7, rowsAt_of] at h

/-! ## The run's results -/

theorem tail_main_v4 (c : Dev nD) :
    Pipeline.afterTail₀ cfgs (dats m) 0 (V0 m) [hostOps1] c main_v4
      = shapeCast S32x1x2048 (spikes m c) shapeCasts_S32x2048_S32x1x2048 := by
  unfold Pipeline.afterTail₀
  show StableHlo.after hostOps1 _ (Proc.devRef .tc main_v4) = _
  unfold hostOps1
  after_results
  rw [show Pipeline.withArrays (cfgs 0).spec c (V0 m c) (fun w => (dats m 0 c).arrAt w (cfgs 0).N)
      (Proc.devRef .tc main_v3_0) = (dats m 0 c).arrAt 6 cfg0.N from
    Pipeline.withArrays_arr spec0 launch0.win.arr_inj c (V0 m c) (fun w => (dats m 0 c).arrAt w cfg0.N) 6, record_array]
  rfl

/-- The kernel's run: the record and the plastic weights are those functions of the arguments, which are unchanged. -/
theorem run_values : θ_run defs (onTc (τ := τ) (main (F := F))) ⟨m, fun _ => 0, ρ⟩ (fun r => ∀ c : Dev nD,
      r.2.mem ((c.tc : Thread nD τ).loc main_v4) = shapeCast S32x1x2048 (spikes m c) shapeCasts_S32x2048_S32x1x2048
      ∧ r.2.mem ((c.tc : Thread nD τ).loc main_v3_1) = weights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h.1.1 c).2 main_v4 (Pipeline.mem_restRefs_of main_v4 (by decide) (by decide))).trans (tail_main_v4 m c),
      ((h.1.1 c).1 7).trans (weights_array m c), h.2.1 c⟩)
    (θ_run_and (run_main m ρ) (frame_run m ρ))

end Cert.Proof.KernelIdeal

end
-- ==== Proof.Neuron.lean ====
/- One time step of the neurons is the same in both programs, over the extended reals: the input current, the recurrent
   current (which the kernel leaves out when no neuron spikes), the synaptic current, the membrane potential, the spikes. -/
module

public import proofs.«01_k».proof.Proof.Fill
public import proofs.«01_k».proof.Proof.Gen.ReferenceIdeal.Step
public import Idealize.ShloMosaic.PureOps.Ideal.Laws
public import Idealize.ShloMosaic.Lib.Pipeline.Value
public import Idealize.ShloMosaic.Lib.ValueLayout
public import Idealize.ShloMosaic.Lib.MatmulPlain
public import Idealize.ShloMosaic.Lib.StackMember
public import Idealize.ShloMosaic.Lib.KernelVsHost
public import Idealize.ShloMosaic.Lib.DynamicIndex
public import Idealize.ShloMosaic.Lib.IdealHost

@[expose] public section

set_option maxRecDepth 16384

noncomputable section

namespace Cert.Proof.Equal

open Cert.KernelIdeal Cert.KernelIdeal.Gen Cert.Proof.KernelIdeal
open Idealize.ShloMosaic
open Idealize.ShloMosaic.ValueIdx

/-- The reference's state over the extended reals. -/
abbrev RefState : Type := Cert.ReferenceIdeal.Step.State Ideal

/-! ## Spikes are zeros and ones -/

/-- A row of spikes: every entry is 0 or 1. -/
def Binary (s : FVec Ideal S1x2048 .f32) : Prop := ∀ x, s x = (0 : EReal) ∨ s x = (1 : EReal)

theorem bit_cases (b : BitVec 1) : ((b.toNat : ℝ) : EReal) = 0 ∨ ((b.toNat : ℝ) : EReal) = 1 := by
  rcases (by decide : ∀ b : BitVec 1, b = 0#1 ∨ b = 1#1) b with rfl | rfl
  · left; simp
  · right; simp

theorem binary_uitofp (b : IVec S1x2048 1) : Binary (uitofp (F := Ideal) .f32 b) := fun x => bit_cases (b x)

theorem zero_row (x : S1x2048.Idx) : (k0_pay1 (F := Ideal)) x = (0 : EReal) := Ideal.ofBits_zero_f32

theorem binary_zero : Binary k0_pay1 := fun x => .inl (zero_row x)

/-! ## The recurrent current -/

/-- The sum the kernel tests. -/
theorem total_spikes (s : FVec Ideal S1x2048 .f32) :
    k0_pay2 s = ∑ i : S1x1x2048.Idx, (shapeCast S1x1x2048 s shapeCasts_S1x2048_S1x1x2048 i : EReal) := by
  unfold k0_pay2
  exact Ideal.multiReduction_add_total _ _ reduces_S1x1x2048_S1 (by decide) (.inl rfl) rfl _

/-- The test fails only of a row of zeros. -/
theorem silent (s : FVec Ideal S1x2048 .f32) (hs : Binary s) (h : ¬ anySpike s = 1#1) (x : S1x2048.Idx) :
    s x = (0 : EReal) := by
  have hle : ¬ ((0 : EReal) < k0_pay2 s) := fun hlt => h (by
    have e : Scalar.cmpf (F := Ideal) .ogt (k0_pay2 s) (Scalar.ofBits .f32 0x00000000#32) = 1#1 := by
      show Ideal.cmp .ogt (k0_pay2 s) (Ideal.ofBits .f32 0x00000000#32) = 1#1
      rw [Ideal.ofBits_zero_f32]
      simp [Ideal.cmp, hlt]
    unfold anySpike
    rw [e]
    rfl)
  have hz : k0_pay2 s = (0 : EReal) := le_antisymm (not_lt.1 hle) (by
    rw [total_spikes]
    refine Finset.sum_nonneg fun i _ => ?_
    rw [shapeCast_addUnit_apply]
    rcases hs (fun a => i a.succ) with e | e <;> rw [e] <;> norm_num)
  have e := (Finset.sum_eq_zero_iff_of_nonneg (fun i _ => by
    rw [shapeCast_addUnit_apply]
    rcases hs (fun a => i a.succ) with e | e <;> rw [e] <;> norm_num)).1 ((total_spikes s).symm.trans hz)
    (Fin.cons ⟨0, Nat.one_pos⟩ x) (Finset.mem_univ _)
  rw [shapeCast_addUnit_apply] at e
  exact e

/-- The scratch array the kernel fills is the reference's transpose. -/
theorem flipped_eq (v : FVec Ideal S2048x2048 .f32) :
    flipped v = transpose S2048x2048 [1, 0] v Cert.ReferenceIdeal.Gen.transposes_S2048x2048_S2048x2048_1_0 := by
  funext y
  obtain ⟨a, b, rfl⟩ : ∃ a b : Fin 2048, y = ix2 a b := ⟨y 0, y 1, eq_ix2 y⟩
  rw [transpose_ix2_apply]
  rfl

/-- The spikes times the transposed weights. -/
abbrev fed (s : FVec Ideal S1x2048 .f32) (w : FVec Ideal S2048x2048 .f32) : FVec Ideal S1x2048 .f32 :=
  Host.dotGeneral dot_S1x2048_S2048x2048_S1x2048_1_0_0_1_n_n none s w

/-- The kernel's recurrent current, left out or not, is the product of the spikes and the transposed weights. -/
theorem recur_eq (v : FVec Ideal S2048x2048 .f32) (s : FVec Ideal S1x2048 .f32) (hs : Binary s) :
    recur (flipped v) s = fed s (flipped v) := by
  unfold recur
  split
  · exact matmul_zero_eq_dotGeneral _ none s (flipped v)
  · next h =>
    funext x
    show Ideal.ofBits .f32 0x00000000#32 = _
    rw [Ideal.ofBits_zero_f32]
    unfold fed
    simp only [Host.dotGeneral]
    rw [Ideal.dotGeneral_apply]
    refine (Finset.sum_eq_zero fun k _ => ?_).symm
    rw [silent s hs h]
    exact zero_mul _

/-! ## The input current -/

/-- A step's number as a word. -/
theorem step_word (j : ℕ) (hj : j < 32) : (BitVec.ofNat 32 j).toInt = (j : ℤ) := by
  rw [BitVec.toInt_ofNat']
  norm_num [Int.bmod]
  omega

/-- A step's row of the inputs, as the reference slices it. -/
theorem slice_apply (j : ℕ) (hj : j < 32) (S : RefState) (k : Fin 512) :
    Cert.ReferenceIdeal.Step.b3 j S (ix2 0 k) = S.main_v2_0 (ix3 ⟨j, hj⟩ 0 k) := by
  have hs : ∀ a : Fin 3, ((((![(constantI Cert.ReferenceIdeal.S_ 32 (BitVec.ofNat 32 j)), Cert.ReferenceIdeal.Step.b0 j S,
      Cert.ReferenceIdeal.Step.b1 j S] : Fin 3 → IVec Cert.ReferenceIdeal.S_ 32)) a
        (Shape.Idx.first Cert.ReferenceIdeal.Gen.h_S_)).toInt) = ((![j, 0, 0] : Fin 3 → ℕ) a : ℤ) := fun a => by
    match a with
    | ⟨0, _⟩ =>
      exact step_word j hj
    | ⟨1, _⟩ => rfl
    | ⟨2, _⟩ => rfl
  have hf : Cert.ReferenceIdeal.S32x1x512.Slices (![j, 0, 0]) Cert.ReferenceIdeal.S1x1x512 := ⟨rfl, fun a => by
    match a with
    | ⟨0, _⟩ => show j + 1 ≤ 32; omega
    | ⟨1, _⟩ => show 0 + 1 ≤ 1; omega
    | ⟨2, _⟩ => show 0 + 512 ≤ 512; omega⟩
  have e2 : Cert.ReferenceIdeal.Step.b2 j S = extractStridedSlice _ (![j, 0, 0]) S.main_v2_0 hf :=
    Host.dynamicSlice_eq_extractStridedSlice _ _ _ _ _ hf hs
  unfold Cert.ReferenceIdeal.Step.b3
  rw [shapeCast_dropUnit_apply, e2]
  refine extractStridedSlice_apply _ _ _ _ _ fun a => ?_
  match a with
  | ⟨0, _⟩ => rfl
  | ⟨1, _⟩ => rfl
  | ⟨2, _⟩ => show k.val = 0 + k.val; omega

/-- A bias as a row: the kernel's reshape and the reference's broadcast. -/
theorem bias_row (b : FVec Ideal Cert.ReferenceIdeal.S2048 .f32) :
    (shapeCast S1x2048 b shapeCasts_S2048_S1x2048 : FVec Ideal S1x2048 .f32)
      = broadcastInDim S1x2048 ![1] Cert.ReferenceIdeal.Gen.bcast_S2048_S1x2048_1 b := by
  funext x
  rw [shapeCast_addUnit_apply]
  refine (broadcastInDim_apply _ _ _ _ _ fun a => ?_).symm
  match a with
  | ⟨0, _⟩ => rfl

/-- Row `j` of the kernel's input currents is the reference's input current at step `j`. -/
theorem current_eq (j : ℕ) (hj : j < 32) (S : RefState) :
    row (F := Ideal) (currents (shapeCast S32x512 S.main_v2_0 shapeCasts_S32x1x512_S32x512) S.main_v2_1
        (shapeCast S1x2048 S.main_v2_2 shapeCasts_S2048_S1x2048)) j
      = (Cert.ReferenceIdeal.Step.b7 j S : FVec Ideal S1x2048 .f32) := by
  funext x
  obtain ⟨c, rfl⟩ : ∃ c : Fin 2048, x = ix2 0 c := ⟨x 1, by
    rw [eq_ix2 x]; congr 1; apply Fin.ext; have := ValueIdx.idx2_lt0 x; show (x 0).val = 0; omega⟩
  unfold row
  have ej : (⟨j % 32, Nat.mod_lt _ (by decide)⟩ : Fin 32) = ⟨j, hj⟩ := Fin.ext (Nat.mod_eq_of_lt hj)
  rw [ej]
  show k0_pay25 _ _ _ (ix2 (⟨j, hj⟩ : Fin 32) c) = _
  unfold k0_pay25 Cert.ReferenceIdeal.Step.b7
  simp only [shapeCast_self]
  show FloatOps.addf _ _ = FloatOps.addf _ _
  congr 1
  · refine (Ideal.matmul_transposedRhs_apply none (shapeCast S32x512 S.main_v2_0 shapeCasts_S32x1x512_S32x512) S.main_v2_1
      (constant S32x2048 .f32 0x00000000#32) ⟨j, hj⟩ c).trans ?_
    unfold Cert.ReferenceIdeal.Step.b5
    refine Eq.trans ?_ (StackMember.dotGeneral_plain_apply none (Cert.ReferenceIdeal.Step.b3 j S) (Cert.ReferenceIdeal.Step.b4 j S) 0 c).symm
    rw [show (constant (F := Ideal) S32x2048 .f32 0x00000000#32) (ix2 ⟨j, hj⟩ c) = (0 : EReal) from Ideal.ofBits_zero_f32,
      zero_add]
    refine Finset.sum_congr rfl fun k _ => ?_
    rw [slice_apply j hj]
    unfold Cert.ReferenceIdeal.Step.b4
    rw [transpose_ix2_apply]
    congr 1
    refine shapeCast_apply _ _ _ _ ?_
    refine (Shape.rowMajor_val_three _).trans (Eq.trans ?_ (Shape.rowMajor_val_two _).symm)
    show (j * 1 + 0) * 512 + k.val = j * 512 + k.val
    omega
  · rw [bias_row]
    refine (broadcastTo_apply _ _ _ (ix2 0 c) fun a => ?_)
    match a with
    | ⟨0, _⟩ => rfl
    | ⟨1, _⟩ => rfl

/-! ## The step -/

/-- A step of the kernel from the state the reference is in is the reference's step. -/
theorem trip_eq (j : ℕ) (hj : j < 32) (S : RefState) (hS : Binary S.main_v2_6) :
    trip (F := Ideal) (flipped S.main_v2_3) (shapeCast S1x2048 S.main_v2_4 shapeCasts_S2048_S1x2048)
        (row (currents (shapeCast S32x512 S.main_v2_0 shapeCasts_S32x1x512_S32x512) S.main_v2_1
          (shapeCast S1x2048 S.main_v2_2 shapeCasts_S2048_S1x2048)) j) (S.main_v2_6, S.main_v2_7, S.main_v2_8)
      = (Cert.ReferenceIdeal.Step.b31 j S, Cert.ReferenceIdeal.Step.b16 j S, Cert.ReferenceIdeal.Step.b24 j S) := by
  unfold trip
  rw [current_eq j hj, recur_eq _ _ hS, bias_row]
  have e9 : fed S.main_v2_6 (flipped S.main_v2_3) = Cert.ReferenceIdeal.Step.b9 j S := by
    rw [flipped_eq]
    rfl
  have e5 : k0_pay5 (F := Ideal) S.main_v2_7 (fed S.main_v2_6 (flipped S.main_v2_3))
      (broadcastInDim S1x2048 ![1] Cert.ReferenceIdeal.Gen.bcast_S2048_S1x2048_1 S.main_v2_4) (Cert.ReferenceIdeal.Step.b7 j S)
      = Cert.ReferenceIdeal.Step.b16 j S := by
    unfold k0_pay5
    simp only [shapeCast_self]
    rw [e9]
    unfold Cert.ReferenceIdeal.Step.b16 Cert.ReferenceIdeal.Step.b15 Cert.ReferenceIdeal.Step.b11
    congr 1
  have e6 : k0_pay6 (F := Ideal) S.main_v2_6 S.main_v2_7 S.main_v2_8
      (fed S.main_v2_6 (flipped S.main_v2_3))
      (broadcastInDim S1x2048 ![1] Cert.ReferenceIdeal.Gen.bcast_S2048_S1x2048_1 S.main_v2_4) (Cert.ReferenceIdeal.Step.b7 j S)
      = Cert.ReferenceIdeal.Step.b24 j S := by
    unfold k0_pay6
    rw [e5]
    rfl
  refine Prod.ext ?_ (Prod.ext e5 e6)
  show k0_pay7 _ _ _ _ _ _ = _
  unfold k0_pay7
  rw [e6]
  refine (sitofp_extui_eq_uitofp _ natLt_1_32).trans ?_
  rfl

end Cert.Proof.Equal

end
-- ==== Proof.Record.lean ====
/- The record of spikes is the same in both programs: the neurons' states agree before every step, and the reference's
   record after 32 steps is the kernel's, reshaped. -/
module

public import proofs.«01_k».proof.Proof.Neuron
public import Idealize.ShloMosaic.Lib.WordCmp

@[expose] public section

set_option maxRecDepth 16384

noncomputable section

namespace Cert.Proof.Equal

open Cert.KernelIdeal Cert.KernelIdeal.Gen Cert.Proof.KernelIdeal
open Idealize.ShloMosaic Idealize.ShloMosaic.ValueIdx

/-- The reference's states from its first. -/
def states (s₀ : RefState) : ℕ → RefState
  | 0 => s₀
  | k + 1 => Cert.ReferenceIdeal.Step.step k (states s₀ k)

/-! ## What the steps leave alone -/

section Constants
variable (s₀ : RefState)

theorem states_x : ∀ k, (states s₀ k).main_v2_0 = s₀.main_v2_0
  | 0 => rfl
  | k + 1 => (show _ = (states s₀ k).main_v2_0 from rfl).trans (states_x k)
theorem states_win : ∀ k, (states s₀ k).main_v2_1 = s₀.main_v2_1
  | 0 => rfl
  | k + 1 => (show _ = (states s₀ k).main_v2_1 from rfl).trans (states_win k)
theorem states_b1 : ∀ k, (states s₀ k).main_v2_2 = s₀.main_v2_2
  | 0 => rfl
  | k + 1 => (show _ = (states s₀ k).main_v2_2 from rfl).trans (states_b1 k)
theorem states_v : ∀ k, (states s₀ k).main_v2_3 = s₀.main_v2_3
  | 0 => rfl
  | k + 1 => (show _ = (states s₀ k).main_v2_3 from rfl).trans (states_v k)
theorem states_brec : ∀ k, (states s₀ k).main_v2_4 = s₀.main_v2_4
  | 0 => rfl
  | k + 1 => (show _ = (states s₀ k).main_v2_4 from rfl).trans (states_brec k)

end Constants

/-! ## The neurons -/

/-- The first state's neurons are at rest. -/
structure AtRest (s₀ : RefState) : Prop where
  spk : s₀.main_v2_6 = k0_pay1 (F := Ideal)
  syn : s₀.main_v2_7 = k0_pay1 (F := Ideal)
  mem : s₀.main_v2_8 = k0_pay1 (F := Ideal)

variable {s₀ : RefState}

theorem binary_states (h : AtRest s₀) : ∀ k, Binary (states s₀ k).main_v2_6
  | 0 => by show Binary s₀.main_v2_6; rw [h.spk]; exact binary_zero
  | _ + 1 => binary_uitofp _

/-- The kernel's record of the first state's arguments. -/
def recordOf₀ (s₀ : RefState) : ℕ → Carry Ideal :=
  st (F := Ideal) (flipped s₀.main_v2_3) (shapeCast S1x2048 s₀.main_v2_4 shapeCasts_S2048_S1x2048)
    (currents (shapeCast S32x512 s₀.main_v2_0 shapeCasts_S32x1x512_S32x512) s₀.main_v2_1
      (shapeCast S1x2048 s₀.main_v2_2 shapeCasts_S2048_S1x2048))

/-- Before every step the kernel's neurons are in the reference's state. -/
theorem neurons_eq (h : AtRest s₀) : ∀ k, k ≤ 32 →
    recordOf₀ s₀ k = ((states s₀ k).main_v2_6, (states s₀ k).main_v2_7, (states s₀ k).main_v2_8)
  | 0, _ => by
    show ((k0_pay1, k0_pay1, k0_pay1) : Carry Ideal) = ((s₀.main_v2_6, s₀.main_v2_7, s₀.main_v2_8) : Carry Ideal)
    rw [h.spk, h.syn, h.mem]
  | k + 1, hk => by
    have e := trip_eq k (by omega) (states s₀ k) (binary_states h k)
    rw [states_x, states_win, states_b1, states_v, states_brec, ← neurons_eq h k (by omega)] at e
    exact e

/-! ## The record -/

/-- A step writes its row of the record and leaves the others. -/
theorem record_step (j : ℕ) (hj : j < 32) (S : RefState) (t : Fin 32) (c : Fin 2048) :
    Cert.ReferenceIdeal.Step.b54 j S (ix3 t 0 c)
      = if t.val = j then (Cert.ReferenceIdeal.Step.b31 j S : FVec Ideal S1x2048 .f32) (ix2 0 c) else S.main_v2_10 (ix3 t 0 c) := by
  have hs : ∀ a : Fin 3, ((((![(constantI Cert.ReferenceIdeal.S_ 32 (BitVec.ofNat 32 j)), Cert.ReferenceIdeal.Step.b52 j S,
      Cert.ReferenceIdeal.Step.b53 j S] : Fin 3 → IVec Cert.ReferenceIdeal.S_ 32)) a
        (Shape.Idx.first Cert.ReferenceIdeal.Gen.h_S_)).toInt) = ((![j, 0, 0] : Fin 3 → ℕ) a : ℤ) := fun a => by
    match a with
    | ⟨0, _⟩ => exact step_word j hj
    | ⟨1, _⟩ => rfl
    | ⟨2, _⟩ => rfl
  have hf : Cert.ReferenceIdeal.S32x1x2048.Slices (![j, 0, 0]) Cert.ReferenceIdeal.S1x1x2048 := ⟨rfl, fun a => by
    match a with
    | ⟨0, _⟩ => show j + 1 ≤ 32; omega
    | ⟨1, _⟩ => show 0 + 1 ≤ 1; omega
    | ⟨2, _⟩ => show 0 + 2048 ≤ 2048; omega⟩
  have e : Cert.ReferenceIdeal.Step.b54 j S = updateSlice S.main_v2_10 (Cert.ReferenceIdeal.Step.b51 j S) (![j, 0, 0]) hf :=
    WordCmp.dynamicUpdateSlice_eq_update _ _ _ _ _ hf hs
  rw [e]
  unfold updateSlice
  split
  · next hin =>
    have h0 : t.val = j := by
      have := hin (0 : Fin 3)
      change j ≤ t.val ∧ t.val < j + 1 at this
      omega
    rw [if_pos h0]
    unfold Cert.ReferenceIdeal.Step.b51
    refine broadcastInDim_apply _ _ _ _ _ fun a => ?_
    match a with
    | ⟨0, _⟩ => rfl
    | ⟨1, _⟩ => rfl
  · next hin =>
    refine (if_neg fun h0 => hin fun a => ?_).symm
    match a with
    | ⟨0, _⟩ => show j ≤ t.val ∧ t.val < j + 1; omega
    | ⟨1, _⟩ => show 0 ≤ 0 ∧ 0 < 0 + 1; omega
    | ⟨2, _⟩ => show 0 ≤ c.val ∧ c.val < 0 + 2048; have := c.isLt; omega

/-- The rows written so far are the spikes of their steps. -/
theorem record_rows (s₀ : RefState) (t : Fin 32) (c : Fin 2048) : ∀ k, k ≤ 32 → t.val < k →
    (states s₀ k).main_v2_10 (ix3 t 0 c) = (states s₀ (t.val + 1)).main_v2_6 (ix2 0 c)
  | 0, _, ht => absurd ht (Nat.not_lt_zero _)
  | k + 1, hk, ht => by
    refine (record_step k (by omega) (states s₀ k) t c).trans ?_
    split
    · next h => subst h; rfl
    · exact record_rows s₀ t c k (by omega) (by omega)

/-- The kernel's record, from the first state. -/
def spikesOf (s₀ : RefState) : FVec Ideal S32x2048 .f32 :=
  record (flipped s₀.main_v2_3) (shapeCast S1x2048 s₀.main_v2_4 shapeCasts_S2048_S1x2048)
    (currents (shapeCast S32x512 s₀.main_v2_0 shapeCasts_S32x1x512_S32x512) s₀.main_v2_1
      (shapeCast S1x2048 s₀.main_v2_2 shapeCasts_S2048_S1x2048))

/-- Row `t` of the kernel's record is the reference's spikes after step `t`. -/
theorem spikesOf_apply (h : AtRest s₀) (t : Fin 32) (c : Fin 2048) :
    spikesOf s₀ (ix2 t c) = (states s₀ (t.val + 1)).main_v2_6 (ix2 0 c) := by
  show (recordOf₀ s₀ (t.val + 1)).1 (ix2 0 c) = _
  rw [neurons_eq h (t.val + 1) t.isLt]

/-- The two records are the same array. -/
theorem record_eq (h : AtRest s₀) :
    (shapeCast S32x1x2048 (spikesOf s₀) shapeCasts_S32x2048_S32x1x2048 : FVec Ideal S32x1x2048 .f32)
      = (states s₀ 32).main_v2_10 := by
  funext y
  obtain ⟨t, c, rfl⟩ : ∃ (t : Fin 32) (c : Fin 2048), y = ix3 t 0 c := ⟨y 0, y 2, by
    refine (eq_ix3 y).trans ?_
    congr 1
    exact Fin.ext (by have h1 := (y 1).isLt; change _ < 1 at h1; show (y 1).val = 0; omega)⟩
  rw [record_rows s₀ t c 32 le_rfl t.isLt, ← spikesOf_apply h]
  refine shapeCast_apply _ _ _ _ ?_
  refine (Shape.rowMajor_val_two _).trans (Eq.trans ?_ (Shape.rowMajor_val_three _).symm)
  show t.val * 2048 + c.val = (t.val * 1 + 0) * 2048 + c.val
  omega

end Cert.Proof.Equal

end
-- ==== Proof.Clip.lean ====
/- Clipping after every step or once at the end, over the extended reals: when a weight that is at most 1 only ever loses
   a nonnegative amount, the first of them nothing, clipping to [-1, 1] at each step gives what one clip at the end does. -/
module

public import Idealize.ShloMosaic.PureOps.Ideal.Laws
public import Idealize.ShloMosaic.Lib.IdealHost

@[expose] public section

namespace Cert.Proof.Equal

open Idealize.ShloMosaic

/-- The learning rate's word is a real number that is not positive. -/
theorem rate_real : ∃ d : ℝ, d ≤ 0 ∧ Ideal.ofBits .f32 0xB8D1CD77#32 = ((d : ℝ) : EReal) := by
  refine ⟨-(13749623 / 2 ^ 37), by norm_num, ?_⟩
  simp [Ideal.ofBits, Ideal.ieee, -EReal.coe_mul]
  norm_num

theorem minus_one : Ideal.ofBits .f32 0xBF800000#32 = (-1 : EReal) := by
  simp [Ideal.ofBits, Ideal.ieee, -EReal.coe_mul]
  norm_num

/-- One more step: lowering a value that is already clipped below, then clipping, is clipping the lowered value. -/
theorem clip_step (v : EReal) (y : ℝ) (hy : y ≤ 0) : max (-1) (max (-1) v + (y : EReal)) = max (-1) (v + (y : EReal)) := by
  have hy' : (y : EReal) ≤ 0 := by exact_mod_cast hy
  have h1 : (-1 : EReal) + (y : EReal) ≤ -1 := by
    calc (-1 : EReal) + (y : EReal) ≤ -1 + 0 := add_le_add le_rfl hy'
      _ = -1 := add_zero _
  rcases le_total (-1) v with h | h
  · rw [max_eq_right h]
  · rw [max_eq_left h, max_eq_left h1, max_eq_left ((add_le_add h le_rfl).trans h1)]

theorem clip_top (W : EReal) (hW : W ≤ 1) (x : ℝ) (hx : x ≤ 0) : min 1 (max (-1) (W + (x : EReal))) = max (-1) (W + (x : EReal)) := by
  have hx' : (x : EReal) ≤ 0 := by exact_mod_cast hx
  refine min_eq_right (max_le ?_ ?_)
  · have h : ((-1 : ℝ) : EReal) ≤ ((1 : ℝ) : EReal) := EReal.coe_le_coe_iff.2 (by norm_num)
    simpa using h
  · calc W + (x : EReal) ≤ 1 + 0 := add_le_add hW hx'
      _ = 1 := add_zero _

/-- The weights after `n + 1` clipped steps of rate `d` are one clip of the total. -/
theorem clip_iter (W : EReal) (hW : W ≤ 1) (d : ℝ) (hd : d ≤ 0) (q : ℕ → ℝ) (hq : ∀ k, 0 ≤ q k) (q0 : q 0 = 0)
    (w : ℕ → EReal) (w0 : w 0 = W) (ws : ∀ k, w (k + 1) = min 1 (max (-1) (w k + (d : EReal) * ((q k : ℝ) : EReal)))) (n : ℕ) :
    w (n + 1) = max (-1) (W + ((d * ∑ i ∈ Finset.range (n + 1), q i : ℝ) : EReal)) := by
  have hs : ∀ k, d * ∑ i ∈ Finset.range k, q i ≤ 0 := fun k =>
    mul_nonpos_of_nonpos_of_nonneg hd (Finset.sum_nonneg fun i _ => hq i)
  induction n with
  | zero =>
    rw [ws, w0, q0]
    simp only [zero_add, Finset.range_one, Finset.sum_singleton, q0, mul_zero, EReal.coe_zero, add_zero]
    have := clip_top W hW 0 le_rfl
    rwa [EReal.coe_zero, add_zero] at this
  | succ n ih =>
    rw [ws, ih, ← EReal.coe_mul, clip_step _ _ (mul_nonpos_of_nonpos_of_nonneg hd (hq _)), add_assoc, ← EReal.coe_add, ← mul_add,
      ← Finset.sum_range_succ, clip_top W hW _ (hs _)]

end Cert.Proof.Equal
-- ==== Proof.Weights.lean ====
/- The plastic weights are the same in both programs: the kernel adds up all 31 products of later and earlier spikes and
   clips once, the reference clips after each of its 32 steps, the first of which adds nothing. -/
module

public import proofs.«01_k».proof.Proof.Record
public import proofs.«01_k».proof.Proof.Clip
public import proofs.«01_k».proof.Proof.Body

@[expose] public section

set_option maxRecDepth 16384

noncomputable section

namespace Cert.Proof.Equal

open Cert.KernelIdeal Cert.KernelIdeal.Gen Cert.Proof.KernelIdeal
open Idealize.ShloMosaic Idealize.ShloMosaic.ValueIdx

variable {s₀ : RefState}

/-! ## The reference's steps -/

/-- Neuron `c`'s spike before step `k`. -/
def spike (s₀ : RefState) (k : ℕ) (c : Fin 2048) : EReal := (states s₀ k).main_v2_6 (ix2 0 c)

/-- The same as a real number. -/
def spikeReal (s₀ : RefState) (k : ℕ) (c : Fin 2048) : ℝ := (spike s₀ k c).toReal

theorem spike_zero (h : AtRest s₀) (c : Fin 2048) : spike s₀ 0 c = 0 := by
  show s₀.main_v2_6 (ix2 0 c) = (0 : EReal)
  rw [h.spk]
  exact zero_row _

theorem spike_real (h : AtRest s₀) (k : ℕ) (c : Fin 2048) : spike s₀ k c = ((spikeReal s₀ k c : ℝ) : EReal) := by
  unfold spikeReal spike
  rcases binary_states h k (ix2 0 c) with e | e <;> rw [e] <;> simp

theorem spikeReal_nonneg (h : AtRest s₀) (k : ℕ) (c : Fin 2048) : 0 ≤ spikeReal s₀ k c := by
  unfold spikeReal spike
  rcases binary_states h k (ix2 0 c) with e | e <;> rw [e] <;> simp

/-- A row read as a vector. -/
theorem vector_apply (s : FVec Ideal S1x2048 .f32) (r : Fin 2048) (i : Cert.ReferenceIdeal.S2048.Idx) (hi : (i 0).val = r.val) :
    shapeCast Cert.ReferenceIdeal.S2048 s Cert.ReferenceIdeal.Gen.shapeCasts_S1x2048_S2048 i = s (ix2 0 r) := by
  rw [shapeCast_dropUnit_apply]
  congr 1
  funext a
  match a with
  | ⟨0, _⟩ => rfl
  | ⟨1, _⟩ => exact Fin.ext hi

/-- The product of a later and an earlier spike that a step adds. -/
theorem product_apply (j : ℕ) (S : RefState) (r c : Fin 2048) :
    Cert.ReferenceIdeal.Step.b38 j S (ix2 r c)
      = ((Cert.ReferenceIdeal.Step.b31 j S (ix2 0 r) : EReal) * S.main_v2_6 (ix2 0 c) : EReal) := by
  unfold Cert.ReferenceIdeal.Step.b38
  refine congrArg₂ (fun a b : EReal => a * b) ?_ ?_
  · unfold Cert.ReferenceIdeal.Step.b36 Cert.ReferenceIdeal.Step.b34
    refine (broadcastInDim_apply _ _ _ _ (ix2 r 0) fun a => ?_).trans ?_
    · match a with
      | ⟨0, _⟩ => rfl
      | ⟨1, _⟩ => rfl
    refine (broadcastInDim_apply _ _ _ _ (fun | ⟨0, _⟩ => r) fun a => ?_).trans ?_
    · match a with
      | ⟨0, _⟩ => rfl
    exact vector_apply _ r _ rfl
  · unfold Cert.ReferenceIdeal.Step.b37 Cert.ReferenceIdeal.Step.b35
    refine (broadcastInDim_apply _ _ _ _ (ix2 0 c) fun a => ?_).trans ?_
    · match a with
      | ⟨0, _⟩ => rfl
      | ⟨1, _⟩ => rfl
    refine (broadcastInDim_apply _ _ _ _ (fun | ⟨0, _⟩ => c) fun a => ?_).trans ?_
    · match a with
      | ⟨0, _⟩ => rfl
    exact vector_apply _ c _ rfl

/-- One step of a weight. -/
theorem weight_step (k : ℕ) (r c : Fin 2048) :
    ((states s₀ (k + 1)).main_v2_9 (ix2 r c) : EReal)
      = min 1 (max (-1) ((states s₀ k).main_v2_9 (ix2 r c)
          + Ideal.ofBits .f32 0xB8D1CD77#32 * (spike s₀ (k + 1) r * spike s₀ k c))) := by
  show min (Ideal.ofBits .f32 0x3F800000#32) (max (Ideal.ofBits .f32 0xBF800000#32)
      (((states s₀ k).main_v2_9 (ix2 r c) : EReal)
        + Ideal.ofBits .f32 0xB8D1CD77#32 * Cert.ReferenceIdeal.Step.b38 k (states s₀ k) (ix2 r c))) = _
  rw [Ideal.ofBits_one_f32, minus_one, product_apply]
  rfl

/-- The reference's weight after all steps: one clip of the total. -/
theorem weight_final (h : AtRest s₀) (r c : Fin 2048) (hW : (s₀.main_v2_9 (ix2 r c) : EReal) ≤ 1) (d : ℝ) (hd : d ≤ 0)
    (he : Ideal.ofBits .f32 0xB8D1CD77#32 = ((d : ℝ) : EReal)) :
    ((states s₀ 32).main_v2_9 (ix2 r c) : EReal) = max (-1) (s₀.main_v2_9 (ix2 r c)
      + ((d * ∑ i ∈ Finset.range 32, spikeReal s₀ (i + 1) r * spikeReal s₀ i c : ℝ) : EReal)) := by
  refine clip_iter _ hW d hd (fun k => spikeReal s₀ (k + 1) r * spikeReal s₀ k c)
    (fun k => mul_nonneg (spikeReal_nonneg h _ _) (spikeReal_nonneg h _ _)) ?_
    (fun k => (states s₀ k).main_v2_9 (ix2 r c)) rfl (fun k => ?_) 31
  · show spikeReal s₀ 1 r * (spike s₀ 0 c).toReal = 0
    rw [spike_zero h]; simp
  · show ((states s₀ (k + 1)).main_v2_9 (ix2 r c) : EReal) = _
    rw [weight_step, he, spike_real h, spike_real h, ← EReal.coe_mul (spikeReal _ _ _)]

/-! ## The kernel's update -/

/-- A weight a point of the kernel updates. -/
theorem updated_apply (i : grid0.Coords) (R : FVec Ideal S32x2048 .f32) (w : FVec Ideal S256x2048 .f32) (r : Fin 256)
    (c : Fin 2048) :
    (updated i R w (ix2 r c) : EReal) = min 1 (max (-1) (w (ix2 r c) + Ideal.ofBits .f32 0xB8D1CD77#32
      * ∑ k : Fin 31, (later i R (ix2 k r) * earlier R (ix2 k c) : EReal))) := by
  unfold updated k0_pay8
  simp only [shapeCast_self]
  show min (Ideal.ofBits .f32 0x3F800000#32) (max (Ideal.ofBits .f32 0xBF800000#32)
      ((w (ix2 r c) : EReal) + Ideal.ofBits .f32 0xB8D1CD77#32
        * FloatOps.matmul (F := Ideal) (DotDims.plain 256 31 2048) none
          (transpose S256x31 [1, 0] (later i R) transposes_S31x256_p1_0_S256x31) (earlier R)
          (constant S256x2048 .f32 0x00000000#32) (ix2 r c))) = _
  rw [Ideal.ofBits_one_f32, minus_one, Ideal.matmul_plain_apply,
    show (constant (F := Ideal) S256x2048 .f32 0x00000000#32) (ix2 r c) = (0 : EReal) from Ideal.ofBits_zero_f32, zero_add]
  congr 4

/-- A finite sum of reals, as an extended real. -/
theorem coe_total {n : ℕ} (f : Fin n → ℝ) : ((∑ k, f k : ℝ) : EReal) = ∑ k, ((f k : ℝ) : EReal) := by
  induction n with
  | zero => simp
  | succ n ih => rw [Fin.sum_univ_succ, Fin.sum_univ_succ, EReal.coe_add, ih]

/-- The sum a point forms, from the record of the reference's spikes. -/
theorem total_eq (h : AtRest s₀) (i : grid0.Coords) (r : Fin 256) (c R : Fin 2048) (hR : R.val = 256 * (i 0).val + r.val) :
    (∑ k : Fin 31, (later i (spikesOf s₀) (ix2 k r) * earlier (spikesOf s₀) (ix2 k c) : EReal))
      = ((∑ i ∈ Finset.range 32, spikeReal s₀ (i + 1) R * spikeReal s₀ i c : ℝ) : EReal) := by
  have z : spikeReal s₀ 0 c = 0 := by unfold spikeReal; rw [spike_zero h]; rfl
  rw [Finset.sum_range_succ' _ 31, z, mul_zero, add_zero,
    Finset.sum_range fun k => spikeReal s₀ (k + 1 + 1) R * spikeReal s₀ (k + 1) c]
  rw [coe_total]
  refine Finset.sum_congr rfl fun k _ => ?_
  have e1 : (later i (spikesOf s₀) (ix2 k r) : EReal) = spike s₀ (k.val + 1 + 1) R := by
    have e : later i (spikesOf s₀) (ix2 k r) = spikesOf s₀ (ix2 (⟨k.val + 1, by omega⟩ : Fin 32) R) := by
      unfold later
      exact congrArg (fun q => spikesOf s₀ (ix2 _ q)) (Fin.ext hR.symm)
    rw [e, spikesOf_apply h]
    rfl
  have e0 : (earlier (spikesOf s₀) (ix2 k c) : EReal) = spike s₀ (k.val + 1) c := by
    have e : earlier (spikesOf s₀) (ix2 k c) = spikesOf s₀ (ix2 (⟨k.val, by omega⟩ : Fin 32) c) := rfl
    rw [e, spikesOf_apply h]
    rfl
  rw [e1, e0, spike_real h, spike_real h, EReal.coe_mul]

/-- The weight a point leaves is the reference's weight after all its steps. -/
theorem weight_eq (h : AtRest s₀) (i : grid0.Coords) (w : FVec Ideal S256x2048 .f32) (r : Fin 256) (c R : Fin 2048)
    (hR : R.val = 256 * (i 0).val + r.val) (hw : w (ix2 r c) = s₀.main_v2_9 (ix2 R c))
    (hW : (s₀.main_v2_9 (ix2 R c) : EReal) ≤ 1) :
    updated i (spikesOf s₀) w (ix2 r c) = (states s₀ 32).main_v2_9 (ix2 R c) := by
  obtain ⟨d, hd, he⟩ := rate_real
  refine (updated_apply i _ w r c).trans ?_
  rw [weight_final h R c hW d hd he, hw, total_eq h i r c R hR, he, ← EReal.coe_mul]
  refine clip_top _ hW _ (mul_nonpos_of_nonpos_of_nonneg hd (Finset.sum_nonneg fun k _ => ?_))
  exact mul_nonneg (spikeReal_nonneg h _ _) (spikeReal_nonneg h _ _)

end Cert.Proof.Equal

end
-- ==== Proof.Equation.lean ====
/- The value claim: from memories that agree on the arguments, the plastic weights at most 1, the kernel and the reference
   end with the same record of spikes and the same plastic weights. -/
module

public import proofs.«01_k».proof.Proof.Frames
public import proofs.«01_k».proof.Proof.Arrays
public import proofs.«01_k».proof.Proof.Weights

@[expose] public section

set_option maxRecDepth 16384

noncomputable section

namespace Cert.Proof.Equal

open Cert.KernelIdeal Cert.KernelIdeal.Gen Cert.Proof.KernelIdeal
open Idealize.ShloMosaic Idealize.ShloMosaic.TcCoe Idealize.ShloMosaic.ValueIdx Idealize.SL.Sem

variable (m : (ℓ : Loc nD τ sig) → Buf (Elt Ideal) ℓ)

/-- The reference's first state, of the kernel's arguments. -/
def first (c : Dev nD) : RefState :=
  Cert.ReferenceIdeal.Step.init (F := Ideal) (m ((c.tc : Thread nD τ).loc main_arg5)) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4))

theorem first_atRest (c : Dev nD) : AtRest (first m c) := ⟨rfl, rfl, rfl⟩

/-- The plastic weights the kernel is handed. -/
def handed (c : Dev nD) : FVec Ideal S2048x2048 .f32 := m ((c.tc : Thread nD τ).loc main_arg5)

/-- The kernel's record is the one formed from that state. -/
theorem spikes_eq (c : Dev nD) : spikes m c = spikesOf (first m c) := by
  unfold spikes spikesOf
  rw [iblk0_eq, iblk1_eq, iblk2_eq, iblk3_eq, iblk4_eq]
  rfl

theorem coords_val : ∀ t : Fin cfg0.N, (grid0.coords t 0).val = t.val := (by decide +kernel : ∀ t : Fin grid0.N, _)

/-- The kernel's plastic weights are the reference's. -/
theorem weights_eq (c : Dev nD) (hW : ∀ y : S2048x2048.Idx, handed m c y ≤ (1 : EReal)) :
    weights m c = (states (first m c) 32).main_v2_9 := by
  funext y
  have hp : rowsAt (pointOf y) (placeOf y) = y := rowsAt_of y
  have e := weight_eq (first_atRest m c) (grid0.coords (pointOf y)) (iblk m c 5 (pointOf y))
    ⟨(y 0).val % 256, Nat.mod_lt _ (by decide)⟩ ⟨(y 1).val, ValueIdx.idx2_lt1 y⟩ ⟨(y 0).val, ValueIdx.idx2_lt0 y⟩
    (by rw [coords_val]; show (y 0).val = 256 * ((y 0).val / 256) + (y 0).val % 256; omega)
    (by
      rw [iblk5_eq]
      show handed m c (rowsAt (pointOf y) (placeOf y)) = handed m c _
      rw [hp]
      exact congrArg _ (eq_ix2 y))
    (hW _)
  unfold weights
  rw [spikes_eq]
  refine e.trans (congrArg (states (first m c) 32).main_v2_9 (eq_ix2 y).symm)

/-- The reference's states, from its own memory, are those. -/
theorem stateAt_eq (m' : (ℓ : Loc Cert.ReferenceIdeal.nD Cert.ReferenceIdeal.τ Cert.ReferenceIdeal.sig) → Buf (Elt Ideal) ℓ)
    (c : Dev nD) (h : Cert.ReferenceIdeal.Iter.stateAt (F := Ideal) m' c 0 = first m c) :
    ∀ k, Cert.ReferenceIdeal.Iter.stateAt (F := Ideal) m' c k = states (first m c) k
  | 0 => h
  | k + 1 => congrArg (Cert.ReferenceIdeal.Step.step k) (stateAt_eq m' c h k)

/-- What the precondition says of one weight. -/
theorem at_most_one (h : Cert.Pre_KernelIdeal_weights_at_most_one m) (c : Dev nD) (y : S2048x2048.Idx) :
    handed m c y ≤ (1 : EReal) := by
  have e : Ideal.cmp .ole (handed m c y) (Ideal.ofBits .f32 0x3F800000#32) = 1#1 :=
    congrFun (h c) y
  rw [Ideal.ofBits_one_f32] at e
  by_contra hn
  simp [Ideal.cmp, hn] at e

end Cert.Proof.Equal

namespace Cert.Proof

open Idealize.ShloMosaic Idealize.ShloMosaic.TcCoe Idealize.SL.Sem

theorem algebraic : Cert.algebraic_KernelIdeal_ReferenceIdeal_pre_weights_at_most_one
    (hKernelIdeal := Cert.KernelIdeal.Gen.facts) (hReferenceIdeal := Cert.ReferenceIdeal.Gen.facts)
    (hPre_weights_at_most_one := preFacts) := by
  intro m g m' g' hpre hargs
  have hs : ∀ c : Dev Cert.KernelIdeal.nD,
      Cert.ReferenceIdeal.Iter.stateAt (F := Ideal) m' c 32 = Equal.states (Equal.first m c) 32 := fun c => by
    obtain ⟨h0, h1, h2, h3, h4, h5⟩ := hargs c
    refine Equal.stateAt_eq m m' c ?_ 32
    unfold Cert.ReferenceIdeal.Iter.stateAt Equal.first
    rw [h0, h1, h2, h3, h4, h5]
  refine ⟨fun c => (Equal.states (Equal.first m c) 32).main_v2_10, fun c => (Equal.states (Equal.first m c) 32).main_v2_9, ?_, ?_⟩
  · refine (θ_run _ _ _).mono (fun r h c => ⟨(h c).1.trans ?_, (h c).2.1.trans ?_, (h c).2.2⟩)
      (Cert.Proof.KernelIdeal.run_values (F := Ideal) m g)
    · rw [Equal.spikes_eq]
      exact Equal.record_eq (Equal.first_atRest m c)
    · exact Equal.weights_eq m c (Equal.at_most_one m hpre c)
  · refine (θ_run _ _ _).mono (fun r h c => ⟨(h c).1.trans ?_, (h c).2.1.trans ?_, (h c).2.2⟩)
      (Cert.ReferenceIdeal.Iter.run_states (F := Ideal) m' g')
    · rw [hs]
    · rw [hs]

end Cert.Proof

end
-- ==== Proof.lean ====
module

public import proofs.«01_k».proof.Defs
public import proofs.«01_k».proof.Proof.Equation

@[expose] public section

theorem Cert.Proof.claim : Cert.Claim :=
  ⟨Cert.Kernel.Gen.facts, Cert.KernelIdeal.Gen.facts, Cert.ReferenceIdeal.Gen.facts, Cert.Proof.preFacts,
    Cert.Proof.quiescent_Kernel, Cert.Proof.quiescent_KernelIdeal, fun m g _ => Cert.Proof.quiescent_KernelIdeal m g trivial,
    Cert.Proof.quiescent_ReferenceIdeal, fun m g _ => Cert.Proof.quiescent_ReferenceIdeal m g trivial, trivial,
    Cert.Proof.algebraic⟩

end
